-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_finite [hPre_affine_finite : Cert.Pre_affine_finite.Facts] (m : (ℓ : Loc Cert.KernelIdeal.nD Cert.KernelIdeal.τ Cert.KernelIdeal.sig) → Buf (Elt Ideal) ℓ) : Prop :=
  ∀ c : Dev Cert.KernelIdeal.nD,
    (Cert.Pre_affine_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_finite [hPre_affine_finite : Cert.Pre_affine_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_affine_finite [hKernelIdeal : Cert.KernelIdeal.Facts] [hPre_affine_finite : Cert.Pre_affine_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_affine_finite [hReferenceIdeal : Cert.ReferenceIdeal.Facts] [hPre_affine_finite : Cert.Pre_affine_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_affine_finite [hKernelIdeal : Cert.KernelIdeal.Facts] [hReferenceIdeal : Cert.ReferenceIdeal.Facts] [hPre_affine_finite : Cert.Pre_affine_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_affine_finite : Cert.Pre_affine_finite.Facts),
    quiescent_Kernel (hKernel := hKernel)
    ∧ quiescent_KernelIdeal (hKernelIdeal := hKernelIdeal)
    ∧ quiescent_KernelIdeal_pre_affine_finite (hKernelIdeal := hKernelIdeal) (hPre_affine_finite := hPre_affine_finite)
    ∧ quiescent_ReferenceIdeal (hReferenceIdeal := hReferenceIdeal)
    ∧ quiescent_ReferenceIdeal_pre_affine_finite (hReferenceIdeal := hReferenceIdeal) (hPre_affine_finite := hPre_affine_finite)
    ∧ preserves_Kernel_KernelIdeal
    ∧ algebraic_KernelIdeal_ReferenceIdeal_pre_affine_finite (hKernelIdeal := hKernelIdeal) (hReferenceIdeal := hReferenceIdeal) (hPre_affine_finite := hPre_affine_finite)
-- ==== Pre_affine_finite.lean ====
abbrev S64x1024x384 : Shape := ⟨3, ![64, 1024, 384]⟩
abbrev S384x256 : Shape := ⟨2, ![384, 256]⟩
abbrev S256 : Shape := ⟨1, ![256]⟩
abbrev S256x64 : Shape := ⟨2, ![256, 64]⟩
abbrev S64 : Shape := ⟨1, ![64]⟩
abbrev S1024x64 : Shape := ⟨2, ![1024, 64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : FVec F S64x1024x384 .f32) (main_arg1 : FVec F S384x256 .f32) (main_arg2 : FVec F S256 .f32) (main_arg3 : FVec F S256 .f32) (main_arg4 : FVec F S256 .f32) (main_arg5 : FVec F S256x64 .f32) (main_arg6 : FVec F S64 .f32) (main_arg7 : FVec F S64 .f32) (main_arg8 : FVec F S64 .f32) (main_arg9 : FVec F S1024x64 .f32) : IVec S_ 1 :=
  let main_v0 : FVec F S64 .f32 := Host.absf main_arg7
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S64 .f32 := Host.absf main_arg8
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S64x1024x384 : Shape := ⟨3, ![64, 1024, 384]⟩
abbrev S384x256 : Shape := ⟨2, ![384, 256]⟩
abbrev S256 : Shape := ⟨1, ![256]⟩
abbrev S256x64 : Shape := ⟨2, ![256, 64]⟩
abbrev S64 : Shape := ⟨1, ![64]⟩
abbrev S1024x64 : Shape := ⟨2, ![1024, 64]⟩
abbrev S65536x384 : Shape := ⟨2, ![65536, 384]⟩
abbrev S65536x64 : Shape := ⟨2, ![65536, 64]⟩
abbrev S128x1x512 : Shape := ⟨3, ![128, 1, 512]⟩
abbrev S1x1 : Shape := ⟨2, ![1, 1]⟩
abbrev S512x384 : Shape := ⟨2, ![512, 384]⟩
abbrev S512x64 : Shape := ⟨2, ![512, 64]⟩
abbrev S1x1x512 : Shape := ⟨3, ![1, 1, 512]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S1x64 : Shape := ⟨2, ![1, 64]⟩
abbrev S1024 : Shape := ⟨1, ![1024]⟩
abbrev S1x1024 : Shape := ⟨2, ![1, 1024]⟩
abbrev S512x1024 : Shape := ⟨2, ![512, 1024]⟩
abbrev S64x1024 : Shape := ⟨2, ![64, 1024]⟩
abbrev S1x512x64 : Shape := ⟨3, ![1, 512, 64]⟩
abbrev S1 : Shape := ⟨1, ![1]⟩
abbrev S1x1x1 : Shape := ⟨3, ![1, 1, 1]⟩
abbrev S_ : Shape := ⟨0, ![]⟩
abbrev S64x1024x64 : Shape := ⟨3, ![64, 1024, 64]⟩

abbrev nBuf : Space → Nat
  | .hbm => 19
  | .vmem => 16
  | .smem => 0
  | _ => 0

abbrev bufTy : (tb : Table) → Fin (tcTables nBuf tb) → BufTy
  | .hbm, ⟨0, _⟩ => ⟨S64x1024x384, .f32⟩
  | .hbm, ⟨1, _⟩ => ⟨S384x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1024x64, .f32⟩
  | .hbm, ⟨10, _⟩ => ⟨S65536x384, .f32⟩
  | .hbm, ⟨11, _⟩ => ⟨S65536x64, .f32⟩
  | .hbm, ⟨12, _⟩ => ⟨S128x1x512, .i32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64x1024x64, .f32⟩
  | .hbm, ⟨18, _⟩ => ⟨S64x1024, .i32⟩
  | .local _ .vmem, ⟨0, _⟩ => ⟨S512x384, .f32⟩
  | .local _ .vmem, ⟨1, _⟩ => ⟨S512x384, .f32⟩
  | .local _ .vmem, ⟨2, _⟩ => ⟨S384x256, .f32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S1024x64, .f32⟩
  | .local _ .vmem, ⟨11, _⟩ => ⟨S512x64, .f32⟩
  | .local _ .vmem, ⟨12, _⟩ => ⟨S512x64, .f32⟩
  | .local _ .vmem, ⟨13, _⟩ => ⟨S1x1x512, .i32⟩
  | .local _ .vmem, ⟨14, _⟩ => ⟨S1x1x512, .i32⟩
  | .local _ .vmem, ⟨15, _⟩ => ⟨S1x1, .f32⟩
  | _, _ => ⟨S64x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S64x1024x384 : Shape := ⟨3, ![64, 1024, 384]⟩
abbrev S384x256 : Shape := ⟨2, ![384, 256]⟩
abbrev S256 : Shape := ⟨1, ![256]⟩
abbrev S256x64 : Shape := ⟨2, ![256, 64]⟩
abbrev S64 : Shape := ⟨1, ![64]⟩
abbrev S1024x64 : Shape := ⟨2, ![1024, 64]⟩
abbrev S64x1024x256 : Shape := ⟨3, ![64, 1024, 256]⟩
abbrev S1x1x256 : Shape := ⟨3, ![1, 1, 256]⟩
abbrev S_ : Shape := ⟨0, ![]⟩
abbrev S64x1024 : Shape := ⟨2, ![64, 1024]⟩
abbrev S64x1024x1 : Shape := ⟨3, ![64, 1024, 1]⟩
abbrev S64x1024x64 : Shape := ⟨3, ![64, 1024, 64]⟩
abbrev S1x1x64 : Shape := ⟨3, ![1, 1, 64]⟩
abbrev S65536x64 : Shape := ⟨2, ![65536, 64]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S1 : Shape := ⟨1, ![1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S64x1024x384, .f32⟩
  | 1 => ⟨S384x256, .f32⟩
  | 2 => ⟨S256, .f32⟩
  | 3 => ⟨S256, .f32⟩
  | 4 => ⟨S256, .f32⟩
  | 5 => ⟨S256x64, .f32⟩
  | 6 => ⟨S64, .f32⟩
  | 7 => ⟨S64, .f32⟩
  | 8 => ⟨S64, .f32⟩
  | 9 => ⟨S1024x64, .f32⟩
  | 10 => ⟨S64x1024x256, .f32⟩
  | 11 => ⟨S1x1x256, .f32⟩
  | 12 => ⟨S64x1024x256, .f32⟩
  | 13 => ⟨S64x1024x256, .f32⟩
  | 14 => ⟨S_, .f32⟩
  | 15 => ⟨S64x1024, .f32⟩
  | 16 => ⟨S64x1024x1, .f32⟩
  | 17 => ⟨S_, .f32⟩
  | 18 => ⟨S64x1024x1, .f32⟩
  | 19 => ⟨S64x1024x1, .f32⟩
  | 20 => ⟨S64x1024x256, .f32⟩
  | 21 => ⟨S64x1024x256, .f32⟩
  | 22 => ⟨S64x1024x256, .f32⟩
  | 23 => ⟨S_, .f32⟩
  | 24 => ⟨S64x1024, .f32⟩
  | 25 => ⟨S64x1024x1, .f32⟩
  | 26 => ⟨S_, .f32⟩
  | 27 => ⟨S64x1024x1, .f32⟩
  | 28 => ⟨S64x1024x1, .f32⟩
  | 29 => ⟨S64x1024x256, .f32⟩
  | 30 => ⟨S64x1024x256, .f32⟩
  | 31 => ⟨S_, .f32⟩
  | 32 => ⟨S64x1024x1, .f32⟩
  | 33 => ⟨S64x1024x1, .f32⟩
  | 34 => ⟨S64x1024x1, .f32⟩
  | 35 => ⟨S64x1024x256, .f32⟩
  | 36 => ⟨S64x1024x256, .f32⟩
  | 37 => ⟨S1x1x256, .f32⟩
  | 38 => ⟨S64x1024x256, .f32⟩
  | 39 => ⟨S64x1024x256, .f32⟩
  | 40 => ⟨S1x1x256, .f32⟩
  | 41 => ⟨S64x1024x256, .f32⟩
  | 42 => ⟨S64x1024x256, .f32⟩
  | 43 => ⟨S_, .f32⟩
  | 44 => ⟨S64x1024x256, .f32⟩
  | 45 => ⟨S64x1024x256, .f32⟩
  | 46 => ⟨S64x1024x256, .f32⟩
  | 47 => ⟨S_, .f32⟩
  | 48 => ⟨S64x1024x256, .f32⟩
  | 49 => ⟨S64x1024x256, .f32⟩
  | 50 => ⟨S64x1024x256, .f32⟩
  | 51 => ⟨S64x1024x256, .f32⟩
  | 52 => ⟨S64x1024x64, .f32⟩
  | 53 => ⟨S1x1x64, .f32⟩
  | 54 => ⟨S64x1024x64, .f32⟩
  | 55 => ⟨S64x1024x64, .f32⟩
  | 56 => ⟨S_, .f32⟩
  | 57 => ⟨S64x1024, .f32⟩
  | 58 => ⟨S64x1024x1, .f32⟩
  | 59 => ⟨S_, .f32⟩
  | 60 => ⟨S64x1024x1, .f32⟩
  | 61 => ⟨S64x1024x1, .f32⟩
  | 62 => ⟨S64x1024x64, .f32⟩
  | 63 => ⟨S64x1024x64, .f32⟩
  | 64 => ⟨S64x1024x64, .f32⟩
  | 65 => ⟨S_, .f32⟩
  | 66 => ⟨S64x1024, .f32⟩
  | 67 => ⟨S64x1024x1, .f32⟩
  | 68 => ⟨S_, .f32⟩
  | 69 => ⟨S64x1024x1, .f32⟩
  | 70 => ⟨S64x1024x1, .f32⟩
  | 71 => ⟨S64x1024x64, .f32⟩
  | 72 => ⟨S64x1024x64, .f32⟩
  | 73 => ⟨S_, .f32⟩
  | 74 => ⟨S64x1024x1, .f32⟩
  | 75 => ⟨S64x1024x1, .f32⟩
  | 76 => ⟨S64x1024x1, .f32⟩
  | 77 => ⟨S64x1024x64, .f32⟩
  | 78 => ⟨S64x1024x64, .f32⟩
  | 79 => ⟨S1x1x64, .f32⟩
  | 80 => ⟨S64x1024x64, .f32⟩
  | 81 => ⟨S64x1024x64, .f32⟩
  | 82 => ⟨S1x1x64, .f32⟩
  | 83 => ⟨S64x1024x64, .f32⟩
  | 84 => ⟨S64x1024x64, .f32⟩
  | 85 => ⟨S65536x64, .f32⟩
  | 86 => ⟨S65536x64, .f32⟩
  | 87 => ⟨S_, .f32⟩
  | 88 => ⟨S65536, .f32⟩
  | 89 => ⟨S65536x1, .f32⟩
  | 90 => ⟨S1024x64, .f32⟩
  | 91 => ⟨S_, .f32⟩
  | 92 => ⟨S1024, .f32⟩
  | 93 => ⟨S1x1024, .f32⟩
  | 94 => ⟨S65536x1024, .f32⟩
  | 95 => ⟨S65536x1024, .f32⟩
  | 96 => ⟨S65536x1024, .f32⟩
  | 97 => ⟨S64x1024, .f32⟩
  | 98 => ⟨S65536x1024, .f32⟩
  | 99 => ⟨S_, .f32⟩
  | 100 => ⟨S65536x1024, .f32⟩
  | 101 => ⟨S65536x1024, .f32⟩
  | 102 => ⟨S65536x1024, .f32⟩
  | 103 => ⟨S65536x1024, .i32⟩
  | 104 => ⟨S_, .f32⟩
  | 105 => ⟨S_, .i32⟩
  | 106 => ⟨S65536, .f32⟩
  | 107 => ⟨S65536, .i32⟩
  | 108 => ⟨S_, .i32⟩
  | 109 => ⟨S65536, .i32⟩
  | 110 => ⟨S65536, .i1⟩
  | 111 => ⟨S_, .i32⟩
  | 112 => ⟨S65536, .i32⟩
  | 113 => ⟨S65536, .i32⟩
  | 114 => ⟨S65536, .i32⟩
  | 115 => ⟨S65536x1, .i32⟩
  | 116 => ⟨S1, .i32⟩
  | 117 => ⟨S_, .i32⟩
  | 118 => ⟨S65536x1, .i32⟩
  | 119 => ⟨S65536x1, .i1⟩
  | 120 => ⟨S1x1, .i32⟩
  | 121 => ⟨S65536x1, .i32⟩
  | 122 => ⟨S65536x1, .i1⟩
  | 123 => ⟨S65536x1, .i1⟩
  | 124 => ⟨S_, .i1⟩
  | 125 => ⟨S65536, .i1⟩
  | 126 => ⟨S65536x64, .f32⟩
  | 127 => ⟨S65536x64, .i1⟩
  | _ => ⟨S64x1024x384, .f32⟩

abbrev hbmTy0_1 (i : Nat) : BufTy := match i % 128 with
  | 0 => ⟨S_, .f32⟩
  | 1 => ⟨S65536x64, .f32⟩
  | 2 => ⟨S65536x64, .f32⟩
  | 3 => ⟨S65536x64, .f32⟩
  | 4 => ⟨S65536x64, .f32⟩
  | 5 => ⟨S_, .f32⟩
  | 6 => ⟨S_, .f32⟩
  | 7 => ⟨S_, .f32⟩
  | 8 => ⟨S_, .f32⟩
  | 9 => ⟨S65536x64, .f32⟩
  | 10 => ⟨S65536x64, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S65536x64, .f32⟩
  | 19 => ⟨S65536x64, .f32⟩
  | 20 => ⟨S64x1024x64, .f32⟩
  | 21 => ⟨S64x1024, .i32⟩
  | _ => ⟨S64x1024x384, .f32⟩

abbrev hbmTy (i : Nat) : BufTy := match i / 128 with
  | 0 => hbmTy0_0 i
  | 1 => hbmTy0_1 i
  | _ => ⟨S64x1024x384, .f32⟩

abbrev bufTy : (tb : Table) → Fin (tcTables nBuf tb) → BufTy
  | .hbm, ⟨i, _⟩ => hbmTy i
  | _, _ => ⟨S64x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call0_v0 : Ref sig .tc := ⟨.hbm, 103, rfl⟩
abbrev main_call0_cst : Ref sig .tc := ⟨.hbm, 104, rfl⟩
abbrev main_call0_c : Ref sig .tc := ⟨.hbm, 105, rfl⟩
abbrev main_call0_v1_0 : Ref sig .tc := ⟨.hbm, 106, rfl⟩
abbrev main_v78 : Ref sig .tc := ⟨.hbm, 107, rfl⟩
abbrev main_call1_c : Ref sig .tc := ⟨.hbm, 108, rfl⟩
abbrev main_call1_v0 : Ref sig .tc := ⟨.hbm, 109, rfl⟩
abbrev main_call1_v1 : Ref sig .tc := ⟨.hbm, 110, rfl⟩
abbrev main_call1_c_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_c_1 : Ref sig .tc := ⟨.hbm, 116, rfl⟩
abbrev main_call1_c_2 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_3 : Ref sig .tc := ⟨.hbm, 124, rfl⟩
abbrev main_call1_v12 : Ref sig .tc := ⟨.hbm, 125, rfl⟩
abbrev main_call1_v13 : Ref sig .tc := ⟨.hbm, 126, rfl⟩
abbrev main_call1_v14 : Ref sig .tc := ⟨.hbm, 127, rfl⟩
abbrev main_call1_cst : Ref sig .tc := ⟨.hbm, 128, rfl⟩
abbrev main_call1_v15 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_14 : Ref sig .tc := ⟨.hbm, 133, rfl⟩
abbrev main_v82 : Ref sig .tc := ⟨.hbm, 134, rfl⟩
abbrev main_cst_15 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_16 : Ref sig .tc := ⟨.hbm, 139, rfl⟩
abbrev main_v86 : Ref sig .tc := ⟨.hbm, 140, rfl⟩
abbrev main_cst_17 : Ref sig .tc := ⟨.hbm, 141, rfl⟩
abbrev main_v87 : Ref sig .tc := ⟨.hbm, 142, rfl⟩
abbrev main_cst_18 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩

abbrev nD : Nat := 1
abbrev τ : Topo := Topo.v7x

variable {F : FTy → Type} [FloatOps F]
-- ==== Proof.RefOps.lean ====
/- The reference as a straight line of array operations, in eight stretches, and its run: what every buffer holds at the end. -/
module

public import proofs.«01_k».proof.Proof.Gen.ReferenceIdeal
public import Idealize.ShloMosaic.PureOps.Ideal
public import Idealize.ShloMosaic.Lib.Claim

@[expose] public section

set_option maxRecDepth 100000
set_option maxHeartbeats 4000000

noncomputable section

namespace Cert.Ref

open Idealize.ShloMosaic Idealize.SL.Sem Cert.ReferenceIdeal Idealize.ShloMosaic.StableHlo
open Cert.ReferenceIdeal.Facts₀ Cert.ReferenceIdeal.Facts

variable {F : FTy → Type} [FloatOps F]

/-- The first dense layer and its normalisation: `main_v27`. -/
def opsHidden : List (HloOp τ sig (Elt F)) := [
  binary main_arg0 main_arg1 main_v0 ((fun l r => Host.dotGeneral dot_S64x1024x384_S384x256_S64x1024x256_2_0_01_1_n_n none l r) : (⟨S64x1024x384, .f32⟩ : BufTy).Contents (Elt F) → (⟨S384x256, .f32⟩ : BufTy).Contents (Elt F) → (⟨S64x1024x256, .f32⟩ : BufTy).Contents (Elt F)),
  unary main_arg2 main_v1 (broadcastInDim S1x1x256 ![2] bcast_S256_S1x1x256_2 : (⟨S256, .f32⟩ : BufTy).Contents (Elt F) → (⟨S1x1x256, .f32⟩ : BufTy).Contents (Elt F)),
  unary main_v1 main_v2 (broadcastInDim S64x1024x256 ![0, 1, 2] bcast_S1x1x256_S64x1024x256_0_1_2 : (⟨S1x1x256, .f32⟩ : BufTy).Contents (Elt F) → (⟨S64x1024x256, .f32⟩ : BufTy).Contents (Elt F)),
  binary main_v0 main_v2 main_v3 (addf : (⟨S64x1024x256, .f32⟩ : BufTy).Contents (Elt F) → (⟨S64x1024x256, .f32⟩ : BufTy).Contents (Elt F) → (⟨S64x1024x256, .f32⟩ : BufTy).Contents (Elt F)),
  nullary main_cst (constant S_ .f32 0x00000000#32),
  binary main_v3 main_cst main_v4 ((fun x v => Host.reduceAdd x v reducesTo_S64x1024x256_S64x1024_d2 h_S_) : (⟨S64x1024x256, .f32⟩ : BufTy).Contents (Elt F) → (⟨S_, .f32⟩ : BufTy).Contents (Elt F) → (⟨S64x1024, .f32⟩ : BufTy).Contents (Elt F)),
  unary main_v4 main_v5 (broadcastInDim S64x1024x1 ![0, 1] bcast_S64x1024_S64x1024x1_0_1 : (⟨S64x1024, .f32⟩ : BufTy).Contents (Elt F) → (⟨S64x1024x1, .f32⟩ : BufTy).Contents (Elt F)),
  nullary main_cst_0 (constant S_ .f32 0x43800000#32),
  unary main_cst_0 main_v6 (broadcastInDim S64x1024x1 ![] bcast_S_S64x1024x1 : (⟨S_, .f32⟩ : BufTy).Contents (Elt F) → (⟨S64x1024x1, .f32⟩ : BufTy).Contents (Elt F)),
  binary main_v5 main_v6 main_v7 (Host.divf : (⟨S64x1024x1, .f32⟩ : BufTy).Contents (Elt F) → (⟨S64x1024x1, .f32⟩ : BufTy).Contents (Elt F) → (⟨S64x1024x1, .f32⟩ : BufTy).Contents (Elt F)),
  unary main_v7 main_v8 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
  binary main_v3 main_v8 main_v9 (subf : (⟨S64x1024x256, .f32⟩ : BufTy).Contents (Elt F) → (⟨S64x1024x256, .f32⟩ : BufTy).Contents (Elt F) → (⟨S64x1024x256, .f32⟩ : BufTy).Contents (Elt F)),
  binary main_v9 main_v9 main_v10 (mulf : (⟨S64x1024x256, .f32⟩ : BufTy).Contents (Elt F) → (⟨S64x1024x256, .f32⟩ : BufTy).Contents (Elt F) → (⟨S64x1024x256, .f32⟩ : BufTy).Contents (Elt F)),
  nullary main_cst_1 (constant S_ .f32 0x00000000#32),
  binary main_v10 main_cst_1 main_v11 ((fun x v => Host.reduceAdd x v reducesTo_S64x1024x256_S64x1024_d2 h_S_) : (⟨S64x1024x256, .f32⟩ : BufTy).Contents (Elt F) → (⟨S_, .f32⟩ : BufTy).Contents (Elt F) → (⟨S64x1024, .f32⟩ : BufTy).Contents (Elt F)),
  unary main_v11 main_v12 (broadcastInDim S64x1024x1 ![0, 1] bcast_S64x1024_S64x1024x1_0_1 : (⟨S64x1024, .f32⟩ : BufTy).Contents (Elt F) → (⟨S64x1024x1, .f32⟩ : BufTy).Contents (Elt F)),
  nullary main_cst_2 (constant S_ .f32 0x43800000#32),
  unary main_cst_2 main_v13 (broadcastInDim S64x1024x1 ![] bcast_S_S64x1024x1 : (⟨S_, .f32⟩ : BufTy).Contents (Elt F) → (⟨S64x1024x1, .f32⟩ : BufTy).Contents (Elt F)),
  binary main_v12 main_v13 main_v14 (Host.divf : (⟨S64x1024x1, .f32⟩ : BufTy).Contents (Elt F) → (⟨S64x1024x1, .f32⟩ : BufTy).Contents (Elt F) → (⟨S64x1024x1, .f32⟩ : BufTy).Contents (Elt F)),
  unary main_v7 main_v15 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
  binary main_v3 main_v15 main_v16 (subf : (⟨S64x1024x256, .f32⟩ : BufTy).Contents (Elt F) → (⟨S64x1024x256, .f32⟩ : BufTy).Contents (Elt F) → (⟨S64x1024x256, .f32⟩ : BufTy).Contents (Elt F)),
  nullary main_cst_3 (constant S_ .f32 0x3727C5AC#32),
  unary main_cst_3 main_v17 (broadcastInDim S64x1024x1 ![] bcast_S_S64x1024x1 : (⟨S_, .f32⟩ : BufTy).Contents (Elt F) → (⟨S64x1024x1, .f32⟩ : BufTy).Contents (Elt F)),
  binary main_v14 main_v17 main_v18 (addf : (⟨S64x1024x1, .f32⟩ : BufTy).Contents (Elt F) → (⟨S64x1024x1, .f32⟩ : BufTy).Contents (Elt F) → (⟨S64x1024x1, .f32⟩ : BufTy).Contents (Elt F)),
  unary main_v18 main_v19 (Host.sqrt : (⟨S64x1024x1, .f32⟩ : BufTy).Contents (Elt F) → (⟨S64x1024x1, .f32⟩ : BufTy).Contents (Elt F)),
  unary main_v19 main_v20 (broadcastInDim S64x1024x256 ![0, 1, 2] bcast_S64x1024x1_S64x1024x256_0_1_2 : (⟨S64x1024x1, .f32⟩ : BufTy).Contents (Elt F) → (⟨S64x1024x256, .f32⟩ : BufTy).Contents (Elt F)),
  binary main_v16 main_v20 main_v21 (Host.divf : (⟨S64x1024x256, .f32⟩ : BufTy).Contents (Elt F) → (⟨S64x1024x256, .f32⟩ : BufTy).Contents (Elt F) → (⟨S64x1024x256, .f32⟩ : BufTy).Contents (Elt F)),
  unary main_arg3 main_v22 (broadcastInDim S1x1x256 ![2] bcast_S256_S1x1x256_2 : (⟨S256, .f32⟩ : BufTy).Contents (Elt F) → (⟨S1x1x256, .f32⟩ : BufTy).Contents (Elt F)),
  unary main_v22 main_v23 (broadcastInDim S64x1024x256 ![0, 1, 2] bcast_S1x1x256_S64x1024x256_0_1_2 : (⟨S1x1x256, .f32⟩ : BufTy).Contents (Elt F) → (⟨S64x1024x256, .f32⟩ : BufTy).Contents (Elt F)),
  binary main_v21 main_v23 main_v24 (mulf : (⟨S64x1024x256, .f32⟩ : BufTy).Contents (Elt F) → (⟨S64x1024x256, .f32⟩ : BufTy).Contents (Elt F) → (⟨S64x1024x256, .f32⟩ : BufTy).Contents (Elt F)),
  unary main_arg4 main_v25 (broadcastInDim S1x1x256 ![2] bcast_S256_S1x1x256_2 : (⟨S256, .f32⟩ : BufTy).Contents (Elt F) → (⟨S1x1x256, .f32⟩ : BufTy).Contents (Elt F)),
  unary main_v25 main_v26 (broadcastInDim S64x1024x256 ![0, 1, 2] bcast_S1x1x256_S64x1024x256_0_1_2 : (⟨S1x1x256, .f32⟩ : BufTy).Contents (Elt F) → (⟨S64x1024x256, .f32⟩ : BufTy).Contents (Elt F)),
  binary main_v24 main_v26 main_v27 (addf : (⟨S64x1024x256, .f32⟩ : BufTy).Contents (Elt F) → (⟨S64x1024x256, .f32⟩ : BufTy).Contents (Elt F) → (⟨S64x1024x256, .f32⟩ : BufTy).Contents (Elt F))]

/-- The buffers these operations write. -/
def hiddenWritten : List (Ref sig .tc) := [
  main_v0, main_v1, main_v2, main_v3, main_cst, main_v4, main_v5, main_cst_0, main_v6, main_v7, main_v8, main_v9, main_v10, main_cst_1, main_v11, main_v12, main_cst_2, main_v13, main_v14, main_v15, main_v16, main_cst_3, main_v17, main_v18, main_v19, main_v20, main_v21, main_v22, main_v23, main_v24, main_v25, main_v26, main_v27]

/-- The activation and the second dense layer: `main_v38`. -/
def opsGelu : List (HloOp τ sig (Elt F)) := [
  nullary main_cst_4 (constant S_ .f32 0x3F000000#32),
  unary main_cst_4 main_v28 (broadcastInDim S64x1024x256 ![] bcast_S_S64x1024x256 : (⟨S_, .f32⟩ : BufTy).Contents (Elt F) → (⟨S64x1024x256, .f32⟩ : BufTy).Contents (Elt F)),
  binary main_v28 main_v27 main_v29 (mulf : (⟨S64x1024x256, .f32⟩ : BufTy).Contents (Elt F) → (⟨S64x1024x256, .f32⟩ : BufTy).Contents (Elt F) → (⟨S64x1024x256, .f32⟩ : BufTy).Contents (Elt F)),
  unary main_v27 main_v30 (Host.negf : (⟨S64x1024x256, .f32⟩ : BufTy).Contents (Elt F) → (⟨S64x1024x256, .f32⟩ : BufTy).Contents (Elt F)),
  nullary main_cst_5 (constant S_ .f32 0x3F3504F3#32),
  unary main_cst_5 main_v31 (broadcastInDim S64x1024x256 ![] bcast_S_S64x1024x256 : (⟨S_, .f32⟩ : BufTy).Contents (Elt F) → (⟨S64x1024x256, .f32⟩ : BufTy).Contents (Elt F)),
  binary main_v30 main_v31 main_v32 (mulf : (⟨S64x1024x256, .f32⟩ : BufTy).Contents (Elt F) → (⟨S64x1024x256, .f32⟩ : BufTy).Contents (Elt F) → (⟨S64x1024x256, .f32⟩ : BufTy).Contents (Elt F)),
  unary main_v32 main_v33 (Host.erfc : (⟨S64x1024x256, .f32⟩ : BufTy).Contents (Elt F) → (⟨S64x1024x256, .f32⟩ : BufTy).Contents (Elt F)),
  binary main_v29 main_v33 main_v34 (mulf : (⟨S64x1024x256, .f32⟩ : BufTy).Contents (Elt F) → (⟨S64x1024x256, .f32⟩ : BufTy).Contents (Elt F) → (⟨S64x1024x256, .f32⟩ : BufTy).Contents (Elt F)),
  binary main_v34 main_arg5 main_v35 ((fun l r => Host.dotGeneral dot_S64x1024x256_S256x64_S64x1024x64_2_0_01_1_n_n none l r) : (⟨S64x1024x256, .f32⟩ : BufTy).Contents (Elt F) → (⟨S256x64, .f32⟩ : BufTy).Contents (Elt F) → (⟨S64x1024x64, .f32⟩ : BufTy).Contents (Elt F)),
  unary main_arg6 main_v36 (broadcastInDim S1x1x64 ![2] bcast_S64_S1x1x64_2 : (⟨S64, .f32⟩ : BufTy).Contents (Elt F) → (⟨S1x1x64, .f32⟩ : BufTy).Contents (Elt F)),
  unary main_v36 main_v37 (broadcastInDim S64x1024x64 ![0, 1, 2] bcast_S1x1x64_S64x1024x64_0_1_2 : (⟨S1x1x64, .f32⟩ : BufTy).Contents (Elt F) → (⟨S64x1024x64, .f32⟩ : BufTy).Contents (Elt F)),
  binary main_v35 main_v37 main_v38 (addf : (⟨S64x1024x64, .f32⟩ : BufTy).Contents (Elt F) → (⟨S64x1024x64, .f32⟩ : BufTy).Contents (Elt F) → (⟨S64x1024x64, .f32⟩ : BufTy).Contents (Elt F))]

/-- The buffers these operations write. -/
def geluWritten : List (Ref sig .tc) := [
  main_cst_4, main_v28, main_v29, main_v30, main_cst_5, main_v31, main_v32, main_v33, main_v34, main_v35, main_v36, main_v37, main_v38]

/-- The row means and the row sums of squares of the second normalisation: `main_v42`, `main_v47`; `main_v48` is the row length. -/
def opsStat : List (HloOp τ sig (Elt F)) := [
  nullary main_cst_6 (constant S_ .f32 0x00000000#32),
  binary main_v38 main_cst_6 main_v39 ((fun x v => Host.reduceAdd x v reducesTo_S64x1024x64_S64x1024_d2 h_S_) : (⟨S64x1024x64, .f32⟩ : BufTy).Contents (Elt F) → (⟨S_, .f32⟩ : BufTy).Contents (Elt F) → (⟨S64x1024, .f32⟩ : BufTy).Contents (Elt F)),
  unary main_v39 main_v40 (broadcastInDim S64x1024x1 ![0, 1] bcast_S64x1024_S64x1024x1_0_1 : (⟨S64x1024, .f32⟩ : BufTy).Contents (Elt F) → (⟨S64x1024x1, .f32⟩ : BufTy).Contents (Elt F)),
  nullary main_cst_7 (constant S_ .f32 0x42800000#32),
  unary main_cst_7 main_v41 (broadcastInDim S64x1024x1 ![] bcast_S_S64x1024x1 : (⟨S_, .f32⟩ : BufTy).Contents (Elt F) → (⟨S64x1024x1, .f32⟩ : BufTy).Contents (Elt F)),
  binary main_v40 main_v41 main_v42 (Host.divf : (⟨S64x1024x1, .f32⟩ : BufTy).Contents (Elt F) → (⟨S64x1024x1, .f32⟩ : BufTy).Contents (Elt F) → (⟨S64x1024x1, .f32⟩ : BufTy).Contents (Elt F)),
  unary main_v42 main_v43 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
  binary main_v38 main_v43 main_v44 (subf : (⟨S64x1024x64, .f32⟩ : BufTy).Contents (Elt F) → (⟨S64x1024x64, .f32⟩ : BufTy).Contents (Elt F) → (⟨S64x1024x64, .f32⟩ : BufTy).Contents (Elt F)),
  binary main_v44 main_v44 main_v45 (mulf : (⟨S64x1024x64, .f32⟩ : BufTy).Contents (Elt F) → (⟨S64x1024x64, .f32⟩ : BufTy).Contents (Elt F) → (⟨S64x1024x64, .f32⟩ : BufTy).Contents (Elt F)),
  nullary main_cst_8 (constant S_ .f32 0x00000000#32),
  binary main_v45 main_cst_8 main_v46 ((fun x v => Host.reduceAdd x v reducesTo_S64x1024x64_S64x1024_d2 h_S_) : (⟨S64x1024x64, .f32⟩ : BufTy).Contents (Elt F) → (⟨S_, .f32⟩ : BufTy).Contents (Elt F) → (⟨S64x1024, .f32⟩ : BufTy).Contents (Elt F)),
  unary main_v46 main_v47 (broadcastInDim S64x1024x1 ![0, 1] bcast_S64x1024_S64x1024x1_0_1 : (⟨S64x1024, .f32⟩ : BufTy).Contents (Elt F) → (⟨S64x1024x1, .f32⟩ : BufTy).Contents (Elt F)),
  nullary main_cst_9 (constant S_ .f32 0x42800000#32),
  unary main_cst_9 main_v48 (broadcastInDim S64x1024x1 ![] bcast_S_S64x1024x1 : (⟨S_, .f32⟩ : BufTy).Contents (Elt F) → (⟨S64x1024x1, .f32⟩ : BufTy).Contents (Elt F))]

/-- The buffers these operations write. -/
def statWritten : List (Ref sig .tc) := [
  main_cst_6, main_v39, main_v40, main_cst_7, main_v41, main_v42, main_v43, main_v44, main_v45, main_cst_8, main_v46, main_v47, main_cst_9, main_v48]

/-- The rest of the second normalisation, one row per token: `main_v63`. -/
def opsLatent : List (HloOp τ sig (Elt F)) := [
  binary main_v47 main_v48 main_v49 (Host.divf : (⟨S64x1024x1, .f32⟩ : BufTy).Contents (Elt F) → (⟨S64x1024x1, .f32⟩ : BufTy).Contents (Elt F) → (⟨S64x1024x1, .f32⟩ : BufTy).Contents (Elt F)),
  unary main_v42 main_v50 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
  binary main_v38 main_v50 main_v51 (subf : (⟨S64x1024x64, .f32⟩ : BufTy).Contents (Elt F) → (⟨S64x1024x64, .f32⟩ : BufTy).Contents (Elt F) → (⟨S64x1024x64, .f32⟩ : BufTy).Contents (Elt F)),
  nullary main_cst_10 (constant S_ .f32 0x3727C5AC#32),
  unary main_cst_10 main_v52 (broadcastInDim S64x1024x1 ![] bcast_S_S64x1024x1 : (⟨S_, .f32⟩ : BufTy).Contents (Elt F) → (⟨S64x1024x1, .f32⟩ : BufTy).Contents (Elt F)),
  binary main_v49 main_v52 main_v53 (addf : (⟨S64x1024x1, .f32⟩ : BufTy).Contents (Elt F) → (⟨S64x1024x1, .f32⟩ : BufTy).Contents (Elt F) → (⟨S64x1024x1, .f32⟩ : BufTy).Contents (Elt F)),
  unary main_v53 main_v54 (Host.sqrt : (⟨S64x1024x1, .f32⟩ : BufTy).Contents (Elt F) → (⟨S64x1024x1, .f32⟩ : BufTy).Contents (Elt F)),
  unary main_v54 main_v55 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
  binary main_v51 main_v55 main_v56 (Host.divf : (⟨S64x1024x64, .f32⟩ : BufTy).Contents (Elt F) → (⟨S64x1024x64, .f32⟩ : BufTy).Contents (Elt F) → (⟨S64x1024x64, .f32⟩ : BufTy).Contents (Elt F)),
  unary main_arg7 main_v57 (broadcastInDim S1x1x64 ![2] bcast_S64_S1x1x64_2 : (⟨S64, .f32⟩ : BufTy).Contents (Elt F) → (⟨S1x1x64, .f32⟩ : BufTy).Contents (Elt F)),
  unary main_v57 main_v58 (broadcastInDim S64x1024x64 ![0, 1, 2] bcast_S1x1x64_S64x1024x64_0_1_2 : (⟨S1x1x64, .f32⟩ : BufTy).Contents (Elt F) → (⟨S64x1024x64, .f32⟩ : BufTy).Contents (Elt F)),
  binary main_v56 main_v58 main_v59 (mulf : (⟨S64x1024x64, .f32⟩ : BufTy).Contents (Elt F) → (⟨S64x1024x64, .f32⟩ : BufTy).Contents (Elt F) → (⟨S64x1024x64, .f32⟩ : BufTy).Contents (Elt F)),
  unary main_arg8 main_v60 (broadcastInDim S1x1x64 ![2] bcast_S64_S1x1x64_2 : (⟨S64, .f32⟩ : BufTy).Contents (Elt F) → (⟨S1x1x64, .f32⟩ : BufTy).Contents (Elt F)),
  unary main_v60 main_v61 (broadcastInDim S64x1024x64 ![0, 1, 2] bcast_S1x1x64_S64x1024x64_0_1_2 : (⟨S1x1x64, .f32⟩ : BufTy).Contents (Elt F) → (⟨S64x1024x64, .f32⟩ : BufTy).Contents (Elt F)),
  binary main_v59 main_v61 main_v62 (addf : (⟨S64x1024x64, .f32⟩ : BufTy).Contents (Elt F) → (⟨S64x1024x64, .f32⟩ : BufTy).Contents (Elt F) → (⟨S64x1024x64, .f32⟩ : BufTy).Contents (Elt F)),
  reshape main_v62 main_v63 (rfl : (.f32 : EltTy) = .f32) shapeCasts_S64x1024x64_S65536x64]

/-- The buffers these operations write. -/
def latentWritten : List (Ref sig .tc) := [
  main_v49, main_v50, main_v51, main_cst_10, main_v52, main_v53, main_v54, main_v55, main_v56, main_v57, main_v58, main_v59, main_v60, main_v61, main_v62, main_v63]

/-- The distance of every token to every codebook row: `main_v77`. -/
def opsDist : List (HloOp τ sig (Elt F)) := [
  binary main_v63 main_v63 main_v64 (mulf : (⟨S65536x64, .f32⟩ : BufTy).Contents (Elt F) → (⟨S65536x64, .f32⟩ : BufTy).Contents (Elt F) → (⟨S65536x64, .f32⟩ : BufTy).Contents (Elt F)),
  nullary main_cst_11 (constant S_ .f32 0x00000000#32),
  binary main_v64 main_cst_11 main_v65 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
  unary main_v65 main_v66 (broadcastInDim S65536x1 ![0] bcast_S65536_S65536x1_0 : (⟨S65536, .f32⟩ : BufTy).Contents (Elt F) → (⟨S65536x1, .f32⟩ : BufTy).Contents (Elt F)),
  binary main_arg9 main_arg9 main_v67 (mulf : (⟨S1024x64, .f32⟩ : BufTy).Contents (Elt F) → (⟨S1024x64, .f32⟩ : BufTy).Contents (Elt F) → (⟨S1024x64, .f32⟩ : BufTy).Contents (Elt F)),
  nullary main_cst_12 (constant S_ .f32 0x00000000#32),
  binary main_v67 main_cst_12 main_v68 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
  unary main_v68 main_v69 (broadcastInDim S1x1024 ![1] bcast_S1024_S1x1024_1 : (⟨S1024, .f32⟩ : BufTy).Contents (Elt F) → (⟨S1x1024, .f32⟩ : BufTy).Contents (Elt F)),
  unary main_v66 main_v70 (broadcastInDim S65536x1024 ![0, 1] bcast_S65536x1_S65536x1024_0_1 : (⟨S65536x1, .f32⟩ : BufTy).Contents (Elt F) → (⟨S65536x1024, .f32⟩ : BufTy).Contents (Elt F)),
  unary main_v69 main_v71 (broadcastInDim S65536x1024 ![0, 1] bcast_S1x1024_S65536x1024_0_1 : (⟨S1x1024, .f32⟩ : BufTy).Contents (Elt F) → (⟨S65536x1024, .f32⟩ : BufTy).Contents (Elt F)),
  binary main_v70 main_v71 main_v72 (addf : (⟨S65536x1024, .f32⟩ : BufTy).Contents (Elt F) → (⟨S65536x1024, .f32⟩ : BufTy).Contents (Elt F) → (⟨S65536x1024, .f32⟩ : BufTy).Contents (Elt F)),
  unary main_arg9 main_v73 ((transpose S64x1024 [1, 0] · transposes_S1024x64_S64x1024_1_0) : (⟨S1024x64, .f32⟩ : BufTy).Contents (Elt F) → (⟨S64x1024, .f32⟩ : BufTy).Contents (Elt F)),
  binary main_v63 main_v73 main_v74 ((fun l r => Host.dotGeneral dot_S65536x64_S64x1024_S65536x1024_1_0_0_1_n_n none l r) : (⟨S65536x64, .f32⟩ : BufTy).Contents (Elt F) → (⟨S64x1024, .f32⟩ : BufTy).Contents (Elt F) → (⟨S65536x1024, .f32⟩ : BufTy).Contents (Elt F)),
  nullary main_cst_13 (constant S_ .f32 0x40000000#32),
  unary main_cst_13 main_v75 (broadcastInDim S65536x1024 ![] bcast_S_S65536x1024 : (⟨S_, .f32⟩ : BufTy).Contents (Elt F) → (⟨S65536x1024, .f32⟩ : BufTy).Contents (Elt F)),
  binary main_v75 main_v74 main_v76 (mulf : (⟨S65536x1024, .f32⟩ : BufTy).Contents (Elt F) → (⟨S65536x1024, .f32⟩ : BufTy).Contents (Elt F) → (⟨S65536x1024, .f32⟩ : BufTy).Contents (Elt F)),
  binary main_v72 main_v76 main_v77 (subf : (⟨S65536x1024, .f32⟩ : BufTy).Contents (Elt F) → (⟨S65536x1024, .f32⟩ : BufTy).Contents (Elt F) → (⟨S65536x1024, .f32⟩ : BufTy).Contents (Elt F))]

/-- The buffers these operations write. -/
def distWritten : List (Ref sig .tc) := [
  main_v64, main_cst_11, main_v65, main_v66, main_v67, main_cst_12, main_v68, main_v69, main_v70, main_v71, main_v72, main_v73, main_v74, main_cst_13, main_v75, main_v76, main_v77]

/-- The index of the least distance: `main_v78`. -/
def opsArgmin : List (HloOp τ sig (Elt F)) := [
  nullary main_call0_v0 (iotaInDim S65536x1024 32 1),
  nullary main_call0_cst (constant (F := F) S_ .f32 0x7F800000#32),
  nullary main_call0_c (constantI S_ 32 0#32),
  quaternary main_v77 main_call0_v0 main_call0_cst main_call0_c main_call0_v1_0 (fun (x : (⟨S65536x1024, .f32⟩ : BufTy).Contents (Elt F)) (y : (⟨S65536x1024, .i32⟩ : BufTy).Contents (Elt F)) (u : (⟨S_, .f32⟩ : BufTy).Contents (Elt F)) (v : (⟨S_, .i32⟩ : BufTy).Contents (Elt F)) j => (Host.argReduce reducer_argmin_f32_i32 x y u v reducesTo_S65536x1024_S65536_d1 h_S_ j).1),
  quaternary main_v77 main_call0_v0 main_call0_cst main_call0_c main_v78 (fun (x : (⟨S65536x1024, .f32⟩ : BufTy).Contents (Elt F)) (y : (⟨S65536x1024, .i32⟩ : BufTy).Contents (Elt F)) (u : (⟨S_, .f32⟩ : BufTy).Contents (Elt F)) (v : (⟨S_, .i32⟩ : BufTy).Contents (Elt F)) j => (Host.argReduce reducer_argmin_f32_i32 x y u v reducesTo_S65536x1024_S65536_d1 h_S_ j).2)]

/-- The buffers these operations write. -/
def argminWritten : List (Ref sig .tc) := [
  main_call0_v0, main_call0_cst, main_call0_c, main_call0_v1_0, main_v78]

/-- The codebook row at that index: `main_v79`. -/
def opsTake : List (HloOp τ sig (Elt F)) := [
  nullary main_call1_c (constantI S_ 32 0#32),
  unary main_call1_c main_call1_v0 (broadcastInDim S65536 ![] bcast_S_S65536),
  binary main_v78 main_call1_v0 main_call1_v1 (cmpi .slt),
  nullary main_call1_c_0 (constantI S_ 32 1024#32),
  unary main_call1_c_0 main_call1_v2 (broadcastInDim S65536 ![] bcast_S_S65536),
  binary main_v78 main_call1_v2 main_call1_v3 addi,
  ternary main_call1_v1 main_call1_v3 main_v78 main_call1_v4 select,
  unary main_call1_v4 main_call1_v5 (broadcastInDim S65536x1 ![0] bcast_S65536_S65536x1_0),
  nullary main_call1_c_1 (constantI S1 32 1023#32),
  nullary main_call1_c_2 (constantI S_ 32 0#32),
  unary main_call1_c_2 main_call1_v6 (broadcastInDim S65536x1 ![] bcast_S_S65536x1),
  binary main_call1_v5 main_call1_v6 main_call1_v7 (cmpi .sge),
  unary main_call1_c_1 main_call1_v8 (broadcastInDim S1x1 ![1] bcast_S1_S1x1_1),
  unary main_call1_v8 main_call1_v9 (broadcastInDim S65536x1 ![0, 1] bcast_S1x1_S65536x1_0_1),
  binary main_call1_v5 main_call1_v9 main_call1_v10 (cmpi .sle),
  binary main_call1_v7 main_call1_v10 main_call1_v11 andi,
  nullary main_call1_c_3 (constantI S_ 1 1#1),
  binary main_call1_v11 main_call1_c_3 main_call1_v12 (fun x v => Host.reduce IntOp.andi x v reducesTo_S65536x1_S65536_d1 h_S_),
  binary main_arg9 main_call1_v5 main_call1_v13 (fun x i => Host.gather gather_S1024x64_S65536x1_S65536x64_1_0_n_n_0_1_164 x i),
  unary main_call1_v12 main_call1_v14 (broadcastInDim S65536x64 ![0] bcast_S65536_S65536x64_0),
  nullary main_call1_cst (constant (F := F) S_ .f32 0x7FC00000#32),
  unary main_call1_cst main_call1_v15 (broadcastInDim S65536x64 ![] bcast_S_S65536x64),
  ternary main_call1_v14 main_call1_v13 main_call1_v15 main_v79 select]

/-- The buffers these operations write. -/
def takeWritten : List (Ref sig .tc) := [
  main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v79]

/-- The three results: `main_v92`, `main_v89`, `main_v93`. -/
def opsResults : List (HloOp τ sig (Elt F)) := [
  binary main_v79 main_v63 main_v80 (subf : (⟨S65536x64, .f32⟩ : BufTy).Contents (Elt F) → (⟨S65536x64, .f32⟩ : BufTy).Contents (Elt F) → (⟨S65536x64, .f32⟩ : BufTy).Contents (Elt F)),
  binary main_v80 main_v80 main_v81 (mulf : (⟨S65536x64, .f32⟩ : BufTy).Contents (Elt F) → (⟨S65536x64, .f32⟩ : BufTy).Contents (Elt F) → (⟨S65536x64, .f32⟩ : BufTy).Contents (Elt F)),
  nullary main_cst_14 (constant S_ .f32 0x00000000#32),
  binary main_v81 main_cst_14 main_v82 ((fun x v => Host.reduceAdd x v reducesTo_S65536x64_S_d0_1 h_S_) : (⟨S65536x64, .f32⟩ : BufTy).Contents (Elt F) → (⟨S_, .f32⟩ : BufTy).Contents (Elt F) → (⟨S_, .f32⟩ : BufTy).Contents (Elt F)),
  nullary main_cst_15 (constant S_ .f32 0x4A800000#32),
  binary main_v82 main_cst_15 main_v83 (Host.divf : (⟨S_, .f32⟩ : BufTy).Contents (Elt F) → (⟨S_, .f32⟩ : BufTy).Contents (Elt F) → (⟨S_, .f32⟩ : BufTy).Contents (Elt F)),
  binary main_v79 main_v63 main_v84 (subf : (⟨S65536x64, .f32⟩ : BufTy).Contents (Elt F) → (⟨S65536x64, .f32⟩ : BufTy).Contents (Elt F) → (⟨S65536x64, .f32⟩ : BufTy).Contents (Elt F)),
  binary main_v84 main_v84 main_v85 (mulf : (⟨S65536x64, .f32⟩ : BufTy).Contents (Elt F) → (⟨S65536x64, .f32⟩ : BufTy).Contents (Elt F) → (⟨S65536x64, .f32⟩ : BufTy).Contents (Elt F)),
  nullary main_cst_16 (constant S_ .f32 0x00000000#32),
  binary main_v85 main_cst_16 main_v86 ((fun x v => Host.reduceAdd x v reducesTo_S65536x64_S_d0_1 h_S_) : (⟨S65536x64, .f32⟩ : BufTy).Contents (Elt F) → (⟨S_, .f32⟩ : BufTy).Contents (Elt F) → (⟨S_, .f32⟩ : BufTy).Contents (Elt F)),
  nullary main_cst_17 (constant S_ .f32 0x4A800000#32),
  binary main_v86 main_cst_17 main_v87 (Host.divf : (⟨S_, .f32⟩ : BufTy).Contents (Elt F) → (⟨S_, .f32⟩ : BufTy).Contents (Elt F) → (⟨S_, .f32⟩ : BufTy).Contents (Elt F)),
  nullary main_cst_18 (constant S_ .f32 0x3E800000#32),
  binary main_cst_18 main_v87 main_v88 (mulf : (⟨S_, .f32⟩ : BufTy).Contents (Elt F) → (⟨S_, .f32⟩ : BufTy).Contents (Elt F) → (⟨S_, .f32⟩ : BufTy).Contents (Elt F)),
  binary main_v83 main_v88 main_v89 (addf : (⟨S_, .f32⟩ : BufTy).Contents (Elt F) → (⟨S_, .f32⟩ : BufTy).Contents (Elt F) → (⟨S_, .f32⟩ : BufTy).Contents (Elt F)),
  binary main_v79 main_v63 main_v90 (subf : (⟨S65536x64, .f32⟩ : BufTy).Contents (Elt F) → (⟨S65536x64, .f32⟩ : BufTy).Contents (Elt F) → (⟨S65536x64, .f32⟩ : BufTy).Contents (Elt F)),
  binary main_v63 main_v90 main_v91 (addf : (⟨S65536x64, .f32⟩ : BufTy).Contents (Elt F) → (⟨S65536x64, .f32⟩ : BufTy).Contents (Elt F) → (⟨S65536x64, .f32⟩ : BufTy).Contents (Elt F)),
  reshape main_v91 main_v92 (rfl : (.f32 : EltTy) = .f32) shapeCasts_S65536x64_S64x1024x64,
  reshape main_v78 main_v93 (rfl : (.i32 : EltTy) = .i32) shapeCasts_S65536_S64x1024]

/-- The buffers these operations write. -/
def resultsWritten : List (Ref sig .tc) := [
  main_v80, main_v81, main_cst_14, main_v82, main_cst_15, main_v83, main_v84, main_v85, main_cst_16, main_v86, main_cst_17, main_v87, main_cst_18, main_v88, main_v89, main_v90, main_v91, main_v92, main_v93]

/-- All the operations, in the order they run. -/
def ops : List (HloOp τ sig (Elt F)) :=
  (opsHidden ++ (opsGelu ++ opsStat)) ++ (opsLatent ++ (opsDist ++ (opsArgmin ++ (opsTake ++ opsResults))))

theorem part0_eq (d : Dev nD) : main_part0 (F := F) d = seq (opsHidden ++ (opsGelu ++ opsStat)) := rfl
theorem part1_eq (d : Dev nD) :
    main_part1 (F := F) d = seq (opsLatent ++ (opsDist ++ (opsArgmin ++ (opsTake ++ opsResults)))) := rfl

/-- The program is these operations one after another. -/
theorem main_eq (d : Dev nD) : main (F := F) d = seq ops :=
  (congrArg₂ (fun p q => p >>= fun _ => q) (part0_eq d) (part1_eq d)).trans (seq_append _ _).symm

theorem hidden_writes : (opsHidden (F := F)).Forall fun op => op.writes ⊆ (hiddenWritten.map (Proc.devRef (τ := τ) .tc)).toFinset :=
  forall_writes_sub_of_map rfl

/-- A buffer the stretch `opsHidden` does not write keeps its contents. -/
theorem after_hidden (V : Valuation τ sig (Elt F)) (r : Ref sig .tc) (hr : r ∉ hiddenWritten) :
    after (opsHidden (F := F)) V (Proc.devRef .tc r) = V (Proc.devRef .tc r) :=
  after_of_writes_sub opsHidden V hidden_writes hr

theorem gelu_writes : (opsGelu (F := F)).Forall fun op => op.writes ⊆ (geluWritten.map (Proc.devRef (τ := τ) .tc)).toFinset :=
  forall_writes_sub_of_map rfl

/-- A buffer the stretch `opsGelu` does not write keeps its contents. -/
theorem after_gelu (V : Valuation τ sig (Elt F)) (r : Ref sig .tc) (hr : r ∉ geluWritten) :
    after (opsGelu (F := F)) V (Proc.devRef .tc r) = V (Proc.devRef .tc r) :=
  after_of_writes_sub opsGelu V gelu_writes hr

theorem stat_writes : (opsStat (F := F)).Forall fun op => op.writes ⊆ (statWritten.map (Proc.devRef (τ := τ) .tc)).toFinset :=
  forall_writes_sub_of_map rfl

/-- A buffer the stretch `opsStat` does not write keeps its contents. -/
theorem after_stat (V : Valuation τ sig (Elt F)) (r : Ref sig .tc) (hr : r ∉ statWritten) :
    after (opsStat (F := F)) V (Proc.devRef .tc r) = V (Proc.devRef .tc r) :=
  after_of_writes_sub opsStat V stat_writes hr

theorem latent_writes : (opsLatent (F := F)).Forall fun op => op.writes ⊆ (latentWritten.map (Proc.devRef (τ := τ) .tc)).toFinset :=
  forall_writes_sub_of_map rfl

/-- A buffer the stretch `opsLatent` does not write keeps its contents. -/
theorem after_latent (V : Valuation τ sig (Elt F)) (r : Ref sig .tc) (hr : r ∉ latentWritten) :
    after (opsLatent (F := F)) V (Proc.devRef .tc r) = V (Proc.devRef .tc r) :=
  after_of_writes_sub opsLatent V latent_writes hr

theorem dist_writes : (opsDist (F := F)).Forall fun op => op.writes ⊆ (distWritten.map (Proc.devRef (τ := τ) .tc)).toFinset :=
  forall_writes_sub_of_map rfl

/-- A buffer the stretch `opsDist` does not write keeps its contents. -/
theorem after_dist (V : Valuation τ sig (Elt F)) (r : Ref sig .tc) (hr : r ∉ distWritten) :
    after (opsDist (F := F)) V (Proc.devRef .tc r) = V (Proc.devRef .tc r) :=
  after_of_writes_sub opsDist V dist_writes hr

theorem argmin_writes : (opsArgmin (F := F)).Forall fun op => op.writes ⊆ (argminWritten.map (Proc.devRef (τ := τ) .tc)).toFinset :=
  forall_writes_sub_of_map rfl

/-- A buffer the stretch `opsArgmin` does not write keeps its contents. -/
theorem after_argmin (V : Valuation τ sig (Elt F)) (r : Ref sig .tc) (hr : r ∉ argminWritten) :
    after (opsArgmin (F := F)) V (Proc.devRef .tc r) = V (Proc.devRef .tc r) :=
  after_of_writes_sub opsArgmin V argmin_writes hr

theorem take_writes : (opsTake (F := F)).Forall fun op => op.writes ⊆ (takeWritten.map (Proc.devRef (τ := τ) .tc)).toFinset :=
  forall_writes_sub_of_map rfl

/-- A buffer the stretch `opsTake` does not write keeps its contents. -/
theorem after_take (V : Valuation τ sig (Elt F)) (r : Ref sig .tc) (hr : r ∉ takeWritten) :
    after (opsTake (F := F)) V (Proc.devRef .tc r) = V (Proc.devRef .tc r) :=
  after_of_writes_sub opsTake V take_writes hr

theorem results_writes : (opsResults (F := F)).Forall fun op => op.writes ⊆ (resultsWritten.map (Proc.devRef (τ := τ) .tc)).toFinset :=
  forall_writes_sub_of_map rfl

/-- A buffer the stretch `opsResults` does not write keeps its contents. -/
theorem after_results (V : Valuation τ sig (Elt F)) (r : Ref sig .tc) (hr : r ∉ resultsWritten) :
    after (opsResults (F := F)) V (Proc.devRef .tc r) = V (Proc.devRef .tc r) :=
  after_of_writes_sub opsResults V results_writes hr

/-- The contents of the buffers after each stretch (the two stretches of the second normalisation counted as one). -/
def V1 (V : Valuation τ sig (Elt F)) := after opsHidden V
def V2 (V : Valuation τ sig (Elt F)) := after opsGelu (V1 V)
def V3 (V : Valuation τ sig (Elt F)) := after opsLatent (after opsStat (V2 V))
def V4 (V : Valuation τ sig (Elt F)) := after opsDist (V3 V)
def V5 (V : Valuation τ sig (Elt F)) := after opsArgmin (V4 V)
def V6 (V : Valuation τ sig (Elt F)) := after opsTake (V5 V)
def V7 (V : Valuation τ sig (Elt F)) := after opsResults (V6 V)

theorem after_ops (V : Valuation τ sig (Elt F)) : after (ops (F := F)) V = V7 V := by
  simp only [ops, after_append, V1, V2, V3, V4, V5, V6, V7]

theorem ops_bufs : (ops (F := F)).Forall fun op => op.bufs ⊆ tcRefs τ sig := by
  simp [ops, opsHidden, opsGelu, opsStat, opsLatent, opsDist, opsArgmin, opsTake, opsResults]

theorem ops_fresh : ∀ op ∈ ops (F := F), op.fresh = ∅ :=
  List.forall_iff_forall_mem.mp (forall_fresh_of_map rfl)

/-- The reference runs to the end, and every buffer then holds what the eight stretches leave in it. -/
theorem run (m : (ℓ : Loc nD τ sig) → Buf (Elt F) ℓ) (g : Dev nD → PrngReg) :
    θ_run (defs (F := F)) (onTc (τ := τ) (main (F := F))) ⟨m, fun _ => 0, g⟩ fun r =>
      ∀ (d : Dev nD) (b : Ref sig .tc), r.2.mem ((d.tc : Thread nD τ).loc b) = V7 (launchContents m d) (Proc.devRef .tc b) :=
  θ_run_mono (run_seq (by decide) (by decide) _ _ (fun _ => ops) main_eq (fun _ => ops_bufs) m g (fun _ => ops_fresh))
    fun _ h d b => by rw [h d b, after_ops]

end Cert.Ref

end
-- ==== Proof.RefFrame.lean ====
/- The reference leaves its argument arrays as they were, and ends with every counter at zero. -/
module

public import proofs.«01_k».proof.Defs
public import proofs.«01_k».proof.Proof.RefOps
public import Idealize.ShloMosaic.Lib.Quiescent

@[expose] public section

set_option maxRecDepth 16384

noncomputable section

namespace Cert.Ref

open Idealize.ShloMosaic Idealize.SL.Sem Cert.ReferenceIdeal Idealize.ShloMosaic.StableHlo

variable {F : FTy → Type} [FloatOps F]

/-- A buffer no stretch writes ends as it began. -/
theorem V7_kept (V : Valuation τ sig (Elt F)) (r : Ref sig .tc)
    (h : r ∉ hiddenWritten ++ geluWritten ++ statWritten ++ latentWritten ++ distWritten ++ argminWritten ++ takeWritten
      ++ resultsWritten) :
    V7 V (Proc.devRef .tc r) = V (Proc.devRef .tc r) := by
  simp only [List.mem_append, not_or] at h
  obtain ⟨⟨⟨⟨⟨⟨⟨h1, h2⟩, h3⟩, h4⟩, h5⟩, h6⟩, h7⟩, h8⟩ := h
  rw [V7, after_results _ _ h8, V6, after_take _ _ h7, V5, after_argmin _ _ h6, V4, after_dist _ _ h5, V3,
    after_latent _ _ h4, after_stat _ _ h3, V2, after_gelu _ _ h2, V1, after_hidden _ _ h1]

/-- The reference runs to the end with its argument arrays unchanged and every counter at zero. -/
theorem frame : Cert.quiescent_ReferenceIdeal := by
  intro m g _
  refine θ_run_mono (run m g) fun r h => ⟨fun c => ?_, sem_eq_zero_of_no_sems rfl _⟩
  and_intros <;> rw [h c, V7_kept _ _ (by decide)]

end Cert.Ref

end
-- ==== Proof.Spec.lean ====
/- What one row goes through, over the extended reals: a dense layer, its normalisation, the Gaussian error unit, the
   distances to the codebook's rows and the first nearest of them. Both programs are read against these definitions. -/
module

public import Idealize.ShloMosaic.PureOps.Ideal
public import Idealize.ShloMosaic.Lib.Pointwise

@[expose] public section

noncomputable section

namespace Cert.Spec

open Idealize.ShloMosaic

/-- The extended real a 32-bit pattern stands for. -/
abbrev lit (w : BitVec 32) : EReal := Ideal.ofBits .f32 w

/-- One output of a dense layer: the row against column `k` of the weights, and the bias. -/
def dense {I K : ℕ} (x : Fin I → EReal) (W : Fin I → Fin K → EReal) (b : Fin K → EReal) (k : Fin K) : EReal :=
  ∑ i, x i * W i k + b k

/-- A row's entry less the row's mean, the width being `n`. -/
def dev {K : ℕ} (n : EReal) (p : Fin K → EReal) (k : Fin K) : EReal := p k - Ideal.div (∑ x, p x) n

/-- The mean square of a row's deviations. -/
def spread {K : ℕ} (n : EReal) (p : Fin K → EReal) : EReal := Ideal.div (∑ x, dev n p x * dev n p x) n

/-- A row's entry centred and multiplied by the reciprocal root of the spread. -/
def scaled {K : ℕ} (n e : EReal) (p : Fin K → EReal) (k : Fin K) : EReal := dev n p k * Ideal.rsqrt (spread n p + e)

/-- A row's entry centred and divided by the root of the spread. -/
def scaledDiv {K : ℕ} (n e : EReal) (p : Fin K → EReal) (k : Fin K) : EReal :=
  Ideal.div (dev n p k) (Ideal.sqrt (spread n p + e))

/-- The small constant under the root. -/
abbrev eps : EReal := lit 0x3727C5AC#32

/-- The Gaussian error unit through the error function. -/
def gelu (h : EReal) : EReal := lit 0x3F000000#32 * h * (1 + Ideal.erf (h * lit 0x3F3504F3#32))

/-- The Gaussian error unit through the complementary error function. -/
def geluC (h : EReal) : EReal := lit 0x3F000000#32 * h * Ideal.erfc (-h * lit 0x3F3504F3#32)

/-- The hidden layer's activation of a row. -/
def hidden (x : Fin 384 → EReal) (W : Fin 384 → Fin 256 → EReal) (b g be : Fin 256 → EReal) (k : Fin 256) : EReal :=
  gelu (scaled (lit 0x43800000#32) eps (dense x W b) k * g k + be k)

/-- The latent vector of a hidden row. -/
def latent (h : Fin 256 → EReal) (W : Fin 256 → Fin 64 → EReal) (b g be : Fin 64 → EReal) (k : Fin 64) : EReal :=
  scaled (lit 0x42800000#32) eps (dense h W b) k * g k + be k

/-- The latent vector of an input row, through both layers. -/
def encode (x : Fin 384 → EReal) (W₁ : Fin 384 → Fin 256 → EReal) (b₁ g₁ be₁ : Fin 256 → EReal)
    (W₂ : Fin 256 → Fin 64 → EReal) (b₂ g₂ be₂ : Fin 64 → EReal) : Fin 64 → EReal :=
  latent (hidden x W₁ b₁ g₁ be₁) W₂ b₂ g₂ be₂

/-- The squared distance from a latent vector to codebook row `j`, multiplied out. -/
def dist (z : Fin 64 → EReal) (cb : Fin 1024 → Fin 64 → EReal) (j : Fin 1024) : EReal :=
  ∑ x, z x * z x + ∑ x, cb j x * cb j x - lit 0x40000000#32 * ∑ x, z x * cb j x

/-- `k` is the first index at which `d` is least. -/
def IsFirstMin {n : ℕ} (d : Fin n → EReal) (k : Fin n) : Prop := (∀ j, d k ≤ d j) ∧ ∀ j < k, d k < d j

/-- A first least index exists. -/
theorem exists_isFirstMin {n : ℕ} [NeZero n] (d : Fin n → EReal) : ∃ k, IsFirstMin d k := by
  classical
  obtain ⟨m, hm⟩ := Finite.exists_min d
  have hne : (Finset.univ.filter fun k => ∀ j, d k ≤ d j).Nonempty := ⟨m, by simpa using hm⟩
  refine ⟨(Finset.univ.filter fun k => ∀ j, d k ≤ d j).min' hne, ?_, fun j hj => ?_⟩
  · simpa using Finset.min'_mem _ hne
  · by_contra hlt
    have hmin := Finset.min'_mem _ hne
    simp only [Finset.mem_filter, Finset.mem_univ, true_and] at hmin
    refine absurd (Finset.min'_le _ j ?_) (not_le.2 hj)
    simpa using fun i => (not_lt.1 hlt).trans (hmin i)

/-- The first index at which `d` is least. -/
def firstMin {n : ℕ} [NeZero n] (d : Fin n → EReal) : Fin n := (exists_isFirstMin d).choose

theorem firstMin_spec {n : ℕ} [NeZero n] (d : Fin n → EReal) : IsFirstMin d (firstMin d) := (exists_isFirstMin d).choose_spec

/-- The codebook row nearest a latent vector, the first of equals. -/
def nearest (z : Fin 64 → EReal) (cb : Fin 1024 → Fin 64 → EReal) : Fin 1024 := firstMin (dist z cb)

/-- One row's share of the squared error: its nearest codebook row against its latent vector. -/
def rowError (z : Fin 64 → EReal) (cb : Fin 1024 → Fin 64 → EReal) : EReal :=
  ∑ k, (cb (nearest z cb) k - z k) * (cb (nearest z cb) k - z k)

/-! ## The three results over the argument arrays -/

/-- A matrix's row. -/
abbrev row {n k : ℕ} (x : (⟨2, ![n, k]⟩ : Shape).Idx → EReal) (r : Fin n) : Fin k → EReal := fun i => x (ix2 r i)

/-- A matrix by its two coordinates. -/
abbrev mat {n k : ℕ} (x : (⟨2, ![n, k]⟩ : Shape).Idx → EReal) : Fin n → Fin k → EReal := fun i j => x (ix2 i j)

/-- A vector by its coordinate. -/
abbrev vec {n : ℕ} (x : (⟨1, ![n]⟩ : Shape).Idx → EReal) : Fin n → EReal := fun i => x (ix1 i)

/-- The input's row number `r`, the rows counted over the two leading axes. -/
def inputRow (x : (⟨3, ![64, 1024, 384]⟩ : Shape).Idx → EReal) (r : Fin 65536) : Fin 384 → EReal :=
  fun i => x (ix3 ⟨r.val / 1024, by omega⟩ ⟨r.val % 1024, by omega⟩ i)

/-- The ten argument arrays. -/
structure Args where
  x : (⟨3, ![64, 1024, 384]⟩ : Shape).Idx → EReal
  W₁ : (⟨2, ![384, 256]⟩ : Shape).Idx → EReal
  b₁ : (⟨1, ![256]⟩ : Shape).Idx → EReal
  g₁ : (⟨1, ![256]⟩ : Shape).Idx → EReal
  be₁ : (⟨1, ![256]⟩ : Shape).Idx → EReal
  W₂ : (⟨2, ![256, 64]⟩ : Shape).Idx → EReal
  b₂ : (⟨1, ![64]⟩ : Shape).Idx → EReal
  g₂ : (⟨1, ![64]⟩ : Shape).Idx → EReal
  be₂ : (⟨1, ![64]⟩ : Shape).Idx → EReal
  book : (⟨2, ![1024, 64]⟩ : Shape).Idx → EReal

/-- The latent vector of input row `r`. -/
def Args.z (A : Args) (r : Fin 65536) : Fin 64 → EReal :=
  encode (inputRow A.x r) (mat A.W₁) (vec A.b₁) (vec A.g₁) (vec A.be₁) (mat A.W₂) (vec A.b₂) (vec A.g₂) (vec A.be₂)

/-- The codebook row nearest input row `r`'s latent vector. -/
def Args.near (A : Args) (r : Fin 65536) : Fin 1024 := nearest (A.z r) (mat A.book)

/-- The sum of every row's squared error. -/
def Args.error (A : Args) : EReal := ∑ r, rowError (A.z r) (mat A.book)

/-- The first result: every row's nearest codebook row. -/
def Args.quantised (A : Args) : (⟨3, ![64, 1024, 64]⟩ : Shape).Idx → EReal :=
  fun i => mat A.book (A.near ⟨(i 0).val * 1024 + (i 1).val, by
    have h0 : (i 0).val < 64 := (i 0).isLt
    have h1 : (i 1).val < 1024 := (i 1).isLt
    omega⟩) (i 2)

/-- The second result: the total error times the loss's factor. -/
def Args.loss (A : Args) : (⟨0, ![]⟩ : Shape).Idx → EReal := fun _ => A.error * lit 0x34A00000#32

/-- The third result: every row's nearest codebook row by number. -/
def Args.indices (A : Args) : (⟨2, ![64, 1024]⟩ : Shape).Idx → BitVec 32 :=
  fun i => BitVec.ofNat 32 (A.near ⟨(i 0).val * 1024 + (i 1).val, by
    have h0 : (i 0).val < 64 := (i 0).isLt
    have h1 : (i 1).val < 1024 := (i 1).isLt
    omega⟩).val

end Cert.Spec

end
-- ==== Proof.Scalars.lean ====
/- The scalar laws the two programs differ by: the normalisation by a reciprocal root or by a quotient, the two forms of the
   Gaussian error unit, the straight-through sum, and the loss's factor. -/
module

public import proofs.«01_k».proof.Proof.Spec

@[expose] public section

noncomputable section

namespace Cert.Spec

open Idealize.ShloMosaic

theorem lit_256 : lit 0x43800000#32 = ((256 : ℝ) : EReal) := by
  simp [lit, Ideal.ofBits, Ideal.ieee, -EReal.coe_mul]; norm_num

theorem lit_64 : lit 0x42800000#32 = ((64 : ℝ) : EReal) := by
  simp [lit, Ideal.ofBits, Ideal.ieee, -EReal.coe_mul]; norm_num

theorem lit_4194304 : lit 0x4A800000#32 = ((4194304 : ℝ) : EReal) := by
  simp [lit, Ideal.ofBits, Ideal.ieee, -EReal.coe_mul]; norm_num

theorem lit_quarter : lit 0x3E800000#32 = ((1 / 4 : ℝ) : EReal) := by
  simp [lit, Ideal.ofBits, Ideal.ieee, -EReal.coe_mul]; norm_num

theorem lit_lossFactor : lit 0x34A00000#32 = ((5 / 16777216 : ℝ) : EReal) := by
  simp [lit, Ideal.ofBits, Ideal.ieee, -EReal.coe_mul]; norm_num

theorem lit_infinity : lit 0x7F800000#32 = ⊤ := by
  simp [lit, Ideal.ofBits, Ideal.ieee]

theorem eps_pos : ∃ r : ℝ, 0 < r ∧ eps = (r : EReal) := by
  refine ⟨(10995116 : ℝ) * (2 : ℝ) ^ (-40 : ℤ), by positivity, ?_⟩
  simp [eps, lit, Ideal.ofBits, Ideal.ieee, -EReal.coe_mul]

/-- An extended real's square is not negative. -/
theorem mul_self_nonneg (x : EReal) : 0 ≤ x * x := by
  induction x with
  | bot => simp
  | top => simp
  | coe r => exact_mod_cast _root_.mul_self_nonneg r

/-- A real divisor is a real factor. -/
theorem div_real {r : ℝ} (hr : 0 < r) (x : EReal) : Ideal.div x (r : EReal) = x * ((1 / r : ℝ) : EReal) :=
  Ideal.div_coe hr.ne' x

theorem sum_sq_nonneg {K : ℕ} (f : Fin K → EReal) : 0 ≤ ∑ x, f x * f x :=
  Finset.sum_nonneg fun x _ => mul_self_nonneg (f x)

/-- The spread is not negative. -/
theorem spread_nonneg {K : ℕ} {r : ℝ} (hr : 0 < r) (p : Fin K → EReal) : 0 ≤ spread (r : EReal) p := by
  rw [spread, div_real hr]
  exact mul_nonneg (sum_sq_nonneg _) (by exact_mod_cast (by positivity : (0 : ℝ) ≤ 1 / r))

/-- The spread with the small constant added is infinite or a positive real. -/
theorem spread_add {K : ℕ} {r e : ℝ} (hr : 0 < r) (he : 0 < e) (p : Fin K → EReal) :
    spread (r : EReal) p + (e : EReal) = ⊤ ∨ ∃ v : ℝ, 0 < v ∧ spread (r : EReal) p + (e : EReal) = (v : EReal) := by
  have h := spread_nonneg hr p
  generalize spread (r : EReal) p = s at h ⊢
  induction s with
  | bot => simp at h
  | top => simp
  | coe s =>
    have hs : 0 ≤ s := by exact_mod_cast h
    exact Or.inr ⟨s + e, by positivity, by norm_cast⟩

theorem rsqrt_real {v : ℝ} (hv : 0 < v) : Ideal.rsqrt (v : EReal) = (((Real.sqrt v)⁻¹ : ℝ) : EReal) := by
  change (if v < 0 then (⊥ : EReal) else if v = 0 then ⊤ else (((Real.sqrt v)⁻¹ : ℝ) : EReal)) = _
  rw [if_neg (not_lt.2 hv.le), if_neg hv.ne']

theorem rsqrt_top : Ideal.rsqrt ⊤ = 0 := rfl

theorem sqrt_top : Ideal.sqrt ⊤ = ⊤ := rfl

theorem sqrt_real {v : ℝ} (hv : 0 < v) : Ideal.sqrt (v : EReal) = ((Real.sqrt v : ℝ) : EReal) := by
  change (if v < 0 then (⊥ : EReal) else ((Real.sqrt v : ℝ) : EReal)) = _
  rw [if_neg (not_lt.2 hv.le)]

/-- Dividing by the root is multiplying by the reciprocal root, at an infinite or positive argument. -/
theorem div_sqrt (d v : EReal) (hv : v = ⊤ ∨ ∃ r : ℝ, 0 < r ∧ v = (r : EReal)) :
    Ideal.div d (Ideal.sqrt v) = d * Ideal.rsqrt v := by
  rcases hv with rfl | ⟨r, hr, rfl⟩
  · simp [sqrt_top, rsqrt_top, Ideal.div]
  · rw [sqrt_real hr, rsqrt_real hr, div_real (Real.sqrt_pos.2 hr), one_div]

/-- The normalised row by quotient is the normalised row by reciprocal root. -/
theorem scaledDiv_eq {K : ℕ} {r e : ℝ} (hr : 0 < r) (he : 0 < e) (p : Fin K → EReal) (k : Fin K) :
    scaledDiv (r : EReal) (e : EReal) p k = scaled (r : EReal) (e : EReal) p k :=
  div_sqrt _ _ (spread_add hr he p)

theorem scaledDiv_256 (p : Fin 256 → EReal) (k : Fin 256) :
    scaledDiv (lit 0x43800000#32) eps p k = scaled (lit 0x43800000#32) eps p k := by
  obtain ⟨e, he, h⟩ := eps_pos
  rw [lit_256, h]; exact scaledDiv_eq (by norm_num) he p k

theorem scaledDiv_64 (p : Fin 64 → EReal) (k : Fin 64) :
    scaledDiv (lit 0x42800000#32) eps p k = scaled (lit 0x42800000#32) eps p k := by
  obtain ⟨e, he, h⟩ := eps_pos
  rw [lit_64, h]; exact scaledDiv_eq (by norm_num) he p k

/-- A finite sum of squares has finite terms. -/
theorem finite_of_sum_sq {K : ℕ} (f : Fin K → EReal) (h : ∑ x, f x * f x ≠ ⊤) (k : Fin K) : ∃ r : ℝ, f k = (r : EReal) := by
  have hle : f k * f k ≤ ∑ x, f x * f x :=
    Finset.single_le_sum (f := fun x => f x * f x) (fun x _ => mul_self_nonneg (f x)) (Finset.mem_univ k)
  have hk : f k * f k ≠ ⊤ := fun e => h (top_le_iff.1 (e ▸ hle))
  generalize f k = y at hk
  induction y with
  | bot => simp at hk
  | top => simp at hk
  | coe r => exact ⟨r, rfl⟩

/-- A normalised row is real whatever the row holds: an infinite deviation makes the spread infinite, and the reciprocal
    root of that is zero. -/
theorem scaled_real {K : ℕ} {r e : ℝ} (hr : 0 < r) (he : 0 < e) (p : Fin K → EReal) (k : Fin K) :
    ∃ v : ℝ, scaled (r : EReal) (e : EReal) p k = (v : EReal) := by
  rcases spread_add hr he p with h | ⟨v, hv, h⟩
  · exact ⟨0, by simp [scaled, h, rsqrt_top]⟩
  · have hs : ∑ x, dev (r : EReal) p x * dev (r : EReal) p x ≠ ⊤ := fun ht => by
      rw [spread, div_real hr, ht, EReal.top_mul_coe_of_pos (by positivity)] at h
      simp at h
    obtain ⟨d, hd⟩ := finite_of_sum_sq _ hs k
    exact ⟨d * (Real.sqrt v)⁻¹, by rw [scaled, h, hd, rsqrt_real hv]; norm_cast⟩

/-- The latent vector is real where its scale and shift are. -/
theorem latent_real (h : Fin 256 → EReal) (W : Fin 256 → Fin 64 → EReal) (b g be : Fin 64 → EReal) (k : Fin 64)
    (hg : ∃ r : ℝ, g k = (r : EReal)) (hbe : ∃ r : ℝ, be k = (r : EReal)) : ∃ r : ℝ, latent h W b g be k = (r : EReal) := by
  obtain ⟨e, he, hE⟩ := eps_pos
  obtain ⟨v, hv⟩ := scaled_real (r := 64) (by norm_num) he (dense h W b) k
  obtain ⟨s, hs⟩ := hg
  obtain ⟨t, ht⟩ := hbe
  exact ⟨v * s + t, by rw [latent, lit_64, hE, hv, hs, ht]; norm_cast⟩

/-- The two forms of the Gaussian error unit agree. -/
theorem geluC_eq (h : EReal) : geluC h = gelu h := by
  rw [geluC, gelu, EReal.neg_mul, Ideal.erfc_neg]

/-- The straight-through sum is the quantised value, where the latent value is real. -/
theorem straight_through {z : EReal} (q : EReal) (hz : ∃ r : ℝ, z = (r : EReal)) : z + (q - z) = q := by
  obtain ⟨r, rfl⟩ := hz
  induction q with
  | bot => simp
  | top => simp
  | coe q => norm_cast; ring

/-- The two loss terms of one mean are the total times one factor. -/
theorem loss_factor (s : EReal) (hs : 0 ≤ s) :
    Ideal.div s (lit 0x4A800000#32) + lit 0x3E800000#32 * Ideal.div s (lit 0x4A800000#32) = s * lit 0x34A00000#32 := by
  rw [lit_4194304, lit_quarter, lit_lossFactor, div_real (by norm_num)]
  induction s with
  | bot => simp at hs
  | top =>
    rw [EReal.top_mul_coe_of_pos (by norm_num), EReal.top_mul_coe_of_pos (by norm_num), EReal.coe_mul_top_of_pos (by norm_num)]
    rfl
  | coe s => norm_cast; ring

theorem rowError_nonneg (z : Fin 64 → EReal) (cb : Fin 1024 → Fin 64 → EReal) : 0 ≤ rowError z cb :=
  sum_sq_nonneg fun k => cb (nearest z cb) k - z k

end Cert.Spec

end
-- ==== Proof.Argmin.lean ====
/- The first least index as each program finds it: the kernel by a least value, then the least index holding it; the
   reference by one pass keeping the smaller value and, of equals, the smaller index. -/
module

public import proofs.«01_k».proof.Proof.Scalars

@[expose] public section

noncomputable section

namespace Cert.Spec

open Idealize.ShloMosaic

/-- A small number's word read signed is the number. -/
theorem toInt_word {n : ℕ} (h : n < 2 ^ 31) : (BitVec.ofNat 32 n).toInt = (n : ℤ) := by
  rw [BitVec.toInt_eq_toNat_of_lt (by rw [BitVec.toNat_ofNat]; omega), BitVec.toNat_ofNat]
  omega

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The least value of a row of numbers is its value at the first least index. -/
theorem fold_min_eq (d : Fin 1024 → EReal) : Finset.fold min ⊤ d Finset.univ = d (firstMin d) :=
  le_antisymm ((Finset.fold_min_le _).2 (Or.inr ⟨_, Finset.mem_univ _, le_rfl⟩))
    ((Finset.le_fold_min _).2 ⟨le_top, fun x _ => (firstMin_spec d).1 x⟩)

/-- The least index whose value is the least value is the first least index. -/
theorem fold_minsi_eq (d : Fin 1024 → EReal) :
    Finset.fold IntOp.minsi 2147483647#32
        (fun x : Fin 1024 => if d x = d (firstMin d) then BitVec.ofNat 32 x.val else 1024#32) Finset.univ
      = BitVec.ofNat 32 (firstMin d).val := by
  have hk := (firstMin d).isLt
  have hw : (BitVec.ofNat 32 (firstMin d).val).toInt = ((firstMin d).val : ℤ) := toInt_word (by omega)
  refine BitVec.eq_of_toInt_eq ?_
  rw [← Finset.fold_hom (op' := min) toInt_minsi, hw]
  refine le_antisymm ((Finset.fold_min_le _).2 (Or.inr ⟨firstMin d, Finset.mem_univ _, ?_⟩))
    ((Finset.le_fold_min _).2 ⟨?_, fun x _ => ?_⟩)
  · rw [if_pos rfl, hw]
  · rw [show (2147483647#32).toInt = 2147483647 from by decide]; omega
  · split
    · next h =>
      rw [toInt_word (show x.val < 2 ^ 31 by have := x.isLt; omega)]
      by_contra hlt
      exact absurd h ((firstMin_spec d).2 x (by rw [Fin.lt_def]; omega)).ne'
    · rw [show (1024#32).toInt = 1024 from by decide]; omega

/-- Value and index no smaller than `p` in the order of values, then of signed indices. -/
def LexLe (p q : EReal × BitVec 32) : Prop := p.1 < q.1 ∨ p.1 = q.1 ∧ p.2.toInt ≤ q.2.toInt

/-- A pass that keeps `m` against anything no smaller, and takes `m` over anything no smaller, ends at `m` if it met it. -/
theorem foldl_lex (f : EReal × BitVec 32 → EReal × BitVec 32 → EReal × BitVec 32) (m : EReal × BitVec 32)
    (hl : ∀ p, LexLe m p → f m p = m) (hr : ∀ p, LexLe m p → f p m = m)
    (hp : ∀ p q, LexLe m p → LexLe m q → LexLe m (f p q)) (L : List (EReal × BitVec 32)) (a : EReal × BitVec 32)
    (ha : LexLe m a) (hL : ∀ p ∈ L, LexLe m p) (hm : a = m ∨ m ∈ L) : L.foldl f a = m := by
  induction L generalizing a with
  | nil => simpa using hm
  | cons p L ih =>
    have hpm := hL p List.mem_cons_self
    refine ih (f a p) (hp a p ha hpm) (fun q hq => hL q (List.mem_cons_of_mem _ hq)) ?_
    rcases hm with rfl | hm
    · exact Or.inl (hl p hpm)
    · rcases List.mem_cons.1 hm with rfl | hm
      · exact Or.inl (hr a ha)
      · exact Or.inr hm

/-- A row's value at its first least index, with that index, is no larger than any value with its index. -/
theorem lexLe_firstMin (d : Fin 1024 → EReal) (j : Fin 1024) :
    LexLe (d (firstMin d), BitVec.ofNat 32 (firstMin d).val) (d j, BitVec.ofNat 32 j.val) := by
  have hs := firstMin_spec d
  rcases (hs.1 j).lt_or_eq with h | h
  · exact Or.inl h
  · refine Or.inr ⟨h, ?_⟩
    have h1 := (firstMin d).isLt
    have h2 := j.isLt
    rw [toInt_word (by omega), toInt_word (by omega)]
    by_contra hlt
    exact absurd h (hs.2 j (by rw [Fin.lt_def]; omega)).ne

/-- Nor larger than the pass's start: the infinite value at index zero. -/
theorem lexLe_firstMin_top (d : Fin 1024 → EReal) :
    LexLe (d (firstMin d), BitVec.ofNat 32 (firstMin d).val) (⊤, 0#32) := by
  have hs := firstMin_spec d
  rcases (le_top : d (firstMin d) ≤ ⊤).lt_or_eq with h | h
  · exact Or.inl h
  · refine Or.inr ⟨h, ?_⟩
    have h0 : firstMin d = 0 := by
      by_contra hne
      have := hs.2 0 (Fin.pos_iff_ne_zero.2 hne)
      rw [h] at this
      exact absurd this (not_lt.2 le_top)
    rw [h0]; exact le_rfl

end Cert.Spec

end
-- ==== Proof.KerBlock.lean ====
/- What one block computes at the exact instance: its payloads at a row and a column, in the row functions of the
   specification. -/
module

public import proofs.«01_k».proof.Proof.Gen.KernelIdeal.Skeleton
public import proofs.«01_k».proof.Proof.Argmin
public import Idealize.ShloMosaic.Lib.Pointwise

@[expose] public section

set_option maxRecDepth 16384
set_option maxHeartbeats 1600000

noncomputable section

namespace Cert.Ker

open Idealize.ShloMosaic Cert.KernelIdeal Cert.KernelIdeal.Gen Cert.Spec

/-- The hidden activation of a block's row. -/
theorem pay6_apply (x : Vec Ideal S512x384 .f32) (W : Vec Ideal S384x256 .f32) (b g be : Vec Ideal S256 .f32)
    (r : Fin 512) (k : Fin 256) :
    k0_pay6 x W b g be (ix2 r k) = hidden (row x r) (mat W) (vec b) (vec g) (vec be) k := by
  pointwise [k0_pay6]
  rfl

/-- The latent vector of a block's row. -/
theorem pay7_apply (h : FVec Ideal S512x256 .f32) (W : Vec Ideal S256x64 .f32) (b g be : Vec Ideal S64 .f32)
    (r : Fin 512) (k : Fin 64) :
    k0_pay7 h W b g be (ix2 r k) = latent (row h r) (mat W) (vec b) (vec g) (vec be) k := by
  pointwise [k0_pay7]
  rfl

theorem pay8_apply (h : FVec Ideal S512x256 .f32) (W : Vec Ideal S256x64 .f32) (b g be : Vec Ideal S64 .f32)
    (cb : Vec Ideal S1024x64 .f32) (r : Fin 512) (j : Fin 1024) :
    k0_pay8 h W b g be cb (ix2 r j)
      = ∑ x, row (k0_pay7 h W b g be) r x * row (k0_pay7 h W b g be) r x + ∑ x, mat cb j x * mat cb j x := by
  pointwise [k0_pay8]

theorem pay9_apply (h : FVec Ideal S512x256 .f32) (W : Vec Ideal S256x64 .f32) (b g be : Vec Ideal S64 .f32)
    (cb : Vec Ideal S1024x64 .f32) (r : Fin 512) (j : Fin 1024) :
    k0_pay9 h W b g be cb (ix2 r j) = ∑ x, row (k0_pay7 h W b g be) r x * mat cb j x := by
  pointwise [k0_pay9]

theorem pay1_apply (a d : FVec Ideal S512x1024 .f32) (c : Ideal .f32) (r : Fin 512) :
    k0_pay1 a d c (ix1 r) = BitVec.ofNat 32 (firstMin fun j : Fin 1024 => a (ix2 r j) - c * d (ix2 r j)).val := by
  pointwise [k0_pay1]
  rw [show Ideal.ofBits .f32 2139095040#32 = (⊤ : EReal) from lit_infinity]
  rw [fold_min_eq fun j : Fin 1024 => a (ix2 r j) - c * d (ix2 r j)]
  exact fold_minsi_eq _

/-- A one-hot combination of numbers is the number at the marked index. -/
theorem sum_oneHot (k : Fin 1024) (f : Fin 1024 → EReal) :
    ∑ x : Fin 1024, (FloatOps.sitofp (F := Ideal) .f32
        (BitVec.setWidth 32 (IntOp.cmpi .eq (BitVec.ofNat 32 x.val) (BitVec.ofNat 32 k.val))) : EReal) * f x = f k := by
  rw [Finset.sum_eq_single k]
  · have h : (FloatOps.sitofp (F := Ideal) .f32
        (BitVec.setWidth 32 (IntOp.cmpi .eq (BitVec.ofNat 32 k.val) (BitVec.ofNat 32 k.val))) : EReal) = 1 := by
      rw [show IntOp.cmpi .eq (BitVec.ofNat 32 k.val) (BitVec.ofNat 32 k.val) = 1#1 by simp [IntOp.cmpi]]
      change (((BitVec.setWidth 32 1#1).toInt : ℝ) : EReal) = 1
      rw [show (BitVec.setWidth 32 1#1).toInt = 1 by decide]
      norm_num
    rw [h, one_mul]
  · intro x _ hne
    have hw : BitVec.ofNat 32 x.val ≠ BitVec.ofNat 32 k.val := fun h => hne (Fin.ext (by
      have := congrArg BitVec.toNat h
      have h1 := x.isLt
      have h2 := k.isLt
      rw [BitVec.toNat_ofNat, BitVec.toNat_ofNat] at this
      omega))
    have h : (FloatOps.sitofp (F := Ideal) .f32
        (BitVec.setWidth 32 (IntOp.cmpi .eq (BitVec.ofNat 32 x.val) (BitVec.ofNat 32 k.val))) : EReal) = 0 := by
      rw [show IntOp.cmpi .eq (BitVec.ofNat 32 x.val) (BitVec.ofNat 32 k.val) = 0#1 by
        simp only [IntOp.cmpi]; rw [beq_eq_false_iff_ne.2 hw]; rfl]
      change (((BitVec.setWidth 32 0#1).toInt : ℝ) : EReal) = 0
      rw [show (BitVec.setWidth 32 0#1).toInt = 0 by decide]
      norm_num
    rw [h, zero_mul]
  · exact fun h => absurd (Finset.mem_univ k) h

theorem pay3_apply (cb : Vec Ideal S1024x64 .f32) (a d : FVec Ideal S512x1024 .f32) (c : Ideal .f32) (r : Fin 512) (k : Fin 64) :
    k0_pay3 cb a d c (ix2 r k) = cb (ix2 (firstMin fun j : Fin 1024 => a (ix2 r j) - c * d (ix2 r j)) k) := by
  pointwise [k0_pay3]
  simp only [pay1_apply]
  exact sum_oneHot _ fun j => cb (ix2 j k)

theorem pay5_apply (z : FVec Ideal S512x64 .f32) (cb : Vec Ideal S1024x64 .f32) (a d : FVec Ideal S512x1024 .f32) (c : Ideal .f32)
    (o : Vec Ideal S1x1 .f32) :
    k0_pay5 z cb a d c o (ix2 0 0)
      = o (ix2 0 0) + ∑ r, ∑ k, (k0_pay3 cb a d c (ix2 r k) - z (ix2 r k)) * (k0_pay3 cb a d c (ix2 r k) - z (ix2 r k)) := by
  pointwise [k0_pay5]

section Block

variable (x : Vec Ideal S512x384 .f32) (W₁ : Vec Ideal S384x256 .f32) (b₁ g₁ be₁ : Vec Ideal S256 .f32)
  (W₂ : Vec Ideal S256x64 .f32) (b₂ g₂ be₂ : Vec Ideal S64 .f32) (cb : Vec Ideal S1024x64 .f32)

/-- The latent vector a block computes for its row `r`. -/
abbrev blockZ (r : Fin 512) : Fin 64 → EReal :=
  encode (row x r) (mat W₁) (vec b₁) (vec g₁) (vec be₁) (mat W₂) (vec b₂) (vec g₂) (vec be₂)

theorem latent_apply (r : Fin 512) (k : Fin 64) :
    k0_pay7 (k0_pay6 x W₁ b₁ g₁ be₁) W₂ b₂ g₂ be₂ (ix2 r k) = blockZ x W₁ b₁ g₁ be₁ W₂ b₂ g₂ be₂ r k := by
  rw [pay7_apply]
  unfold blockZ encode
  congr 1
  funext i
  exact pay6_apply x W₁ b₁ g₁ be₁ r i

/-- The distances a block compares for its row `r`. -/
theorem dist_apply (r : Fin 512) (j : Fin 1024) :
    (k0_pay8 (k0_pay6 x W₁ b₁ g₁ be₁) W₂ b₂ g₂ be₂ cb (ix2 r j)
        - lit 0x40000000#32 * k0_pay9 (k0_pay6 x W₁ b₁ g₁ be₁) W₂ b₂ g₂ be₂ cb (ix2 r j) : EReal)
      = dist (blockZ x W₁ b₁ g₁ be₁ W₂ b₂ g₂ be₂ r) (mat cb) j := by
  rw [pay8_apply, pay9_apply]
  simp only [row, latent_apply]
  rfl

/-- The quantised block holds each row's nearest codebook row. -/
theorem quantised_apply (r : Fin 512) (k : Fin 64) :
    k0_pay3 cb (k0_pay8 (k0_pay6 x W₁ b₁ g₁ be₁) W₂ b₂ g₂ be₂ cb) (k0_pay9 (k0_pay6 x W₁ b₁ g₁ be₁) W₂ b₂ g₂ be₂ cb)
        (FloatOps.ofBits (F := Ideal) .f32 0x40000000#32) (ix2 r k)
      = mat cb (nearest (blockZ x W₁ b₁ g₁ be₁ W₂ b₂ g₂ be₂ r) (mat cb)) k := by
  rw [pay3_apply]
  exact congrArg (fun d => mat cb (firstMin d) k) (funext fun j => dist_apply x W₁ b₁ g₁ be₁ W₂ b₂ g₂ be₂ cb r j)

/-- The index block holds each row's nearest codebook row by number. -/
theorem indices_apply (r : Fin 512) :
    k0_pay2 (k0_pay8 (k0_pay6 x W₁ b₁ g₁ be₁) W₂ b₂ g₂ be₂ cb) (k0_pay9 (k0_pay6 x W₁ b₁ g₁ be₁) W₂ b₂ g₂ be₂ cb)
        (FloatOps.ofBits (F := Ideal) .f32 0x40000000#32) (ix3 0 0 r)
      = BitVec.ofNat 32 (nearest (blockZ x W₁ b₁ g₁ be₁ W₂ b₂ g₂ be₂ r) (mat cb)).val := by
  pointwise [k0_pay2]
  refine (pay1_apply _ _ _ _).trans ?_
  exact congrArg (fun d => BitVec.ofNat 32 (firstMin d).val) (funext fun j => dist_apply x W₁ b₁ g₁ be₁ W₂ b₂ g₂ be₂ cb r j)

/-- The error cell gains every row's squared error. -/
theorem error_apply (o : Vec Ideal S1x1 .f32) :
    k0_pay5 (k0_pay7 (k0_pay6 x W₁ b₁ g₁ be₁) W₂ b₂ g₂ be₂) cb (k0_pay8 (k0_pay6 x W₁ b₁ g₁ be₁) W₂ b₂ g₂ be₂ cb)
        (k0_pay9 (k0_pay6 x W₁ b₁ g₁ be₁) W₂ b₂ g₂ be₂ cb) (FloatOps.ofBits (F := Ideal) .f32 0x40000000#32) o (ix2 0 0)
      = o (ix2 0 0) + ∑ r, rowError (blockZ x W₁ b₁ g₁ be₁ W₂ b₂ g₂ be₂ r) (mat cb) := by
  rw [pay5_apply]
  simp only [quantised_apply, latent_apply]
  rfl

/-- The error cell starts at zero. -/
theorem zero_apply (j : S1x1.Idx) : k0_pay4 (F := Ideal) j = (0 : EReal) := by
  pointwise [k0_pay4]

end Block

end Cert.Ker

end
-- ==== Proof.KerArrays.lean ====
/- What the kernel's output arrays hold after the last block: every row's nearest codebook row and its number, block after
   block, and the error cell's sum over the blocks. -/
module

public import proofs.«01_k».proof.Proof.KerBlock
public import proofs.«01_k».proof.Proof.Gen.KernelIdeal.Frame
public import Idealize.ShloMosaic.Lib.Pipeline.ValueKit

@[expose] public section

set_option maxRecDepth 16384

noncomputable section

namespace Cert.Ker

open Idealize.ShloMosaic Idealize.ShloMosaic.TcCoe Idealize.SL.Sem Cert.KernelIdeal Cert.KernelIdeal.Gen Cert.Spec
open Idealize.ShloMosaic.Pipeline (Dat)

variable (m : (ℓ : Loc nD τ sig) → Buf (Elt Ideal) ℓ)

/-- The kernel's argument arrays on a device. -/
def args (c : Dev nD) : Args where
  x := m ((c : Thread nD τ).loc main_arg0)
  W₁ := m ((c : Thread nD τ).loc main_arg1)
  b₁ := m ((c : Thread nD τ).loc main_arg2)
  g₁ := m ((c : Thread nD τ).loc main_arg3)
  be₁ := m ((c : Thread nD τ).loc main_arg4)
  W₂ := m ((c : Thread nD τ).loc main_arg5)
  b₂ := m ((c : Thread nD τ).loc main_arg6)
  g₂ := m ((c : Thread nD τ).loc main_arg7)
  be₂ := m ((c : Thread nD τ).loc main_arg8)
  book := m ((c : Thread nD τ).loc main_arg9)

/-- Where each window's block sits at each grid point. -/
theorem idx : ∀ t : Fin cfg0.N, win0_0.index t = ![t.val, 0] ∧ win0_1.index t = ![0, 0] ∧ win0_2.index t = ![0]
    ∧ win0_3.index t = ![0] ∧ win0_4.index t = ![0] ∧ win0_5.index t = ![0, 0] ∧ win0_6.index t = ![0]
    ∧ win0_7.index t = ![0] ∧ win0_8.index t = ![0] ∧ win0_9.index t = ![0, 0] ∧ win0_10.index t = ![t.val, 0]
    ∧ win0_11.index t = ![t.val, 0, 0] ∧ win0_12.index t = ![0, 0] :=
  (by decide +kernel : ∀ t : Fin grid0.N, _)

theorem points : cfg0.N = 128 := by decide +kernel

/-- The region finds the input reshaped to its rows. -/
theorem entry_x (c : Dev nD) : V m c main_v0
    = (shapeCast S65536x384 (m ((c : Thread nD τ).loc main_arg0) : FVec Ideal S64x1024x384 .f32)
        shapeCasts_S64x1024x384_S65536x384 : FVec Ideal S65536x384 .f32) := by
  rfl

/-- The reshaped input's row `R` is the input's. -/
theorem reshape_x (X : FVec Ideal S64x1024x384 .f32) (R : Fin 65536) (i : Fin 384) :
    (shapeCast S65536x384 X shapeCasts_S64x1024x384_S65536x384 : FVec Ideal S65536x384 .f32) (ix2 R i) = inputRow X R i := by
  pointwise
  rfl

/-- The input block's row is the array's row. -/
theorem block_x (c : Dev nD) (t : Fin cfg0.N) (r : Fin 512) :
    row (iblk m c 0 t : FVec Ideal S512x384 .f32) r
      = inputRow (args m c).x ⟨t.val * 512 + r.val, by have := t.isLt; have := points; omega⟩ := by
  funext i
  have h : (iblk m c 0 t : FVec Ideal S512x384 .f32) (ix2 r i)
      = (V m c main_v0 : FVec Ideal S65536x384 .f32) (ix2 ⟨t.val * 512 + r.val, by have := t.isLt; have := points; omega⟩ i) := by
    blk_ext [iblk, idx t]
  refine h.trans ((congrFun (entry_x m c) _).trans (reshape_x _ _ i))

theorem block_1 (c : Dev nD) (t : Fin cfg0.N) : iblk m c 1 t = m ((c : Thread nD τ).loc main_arg1) := by blk_ext! [iblk, V, idx t]
theorem block_2 (c : Dev nD) (t : Fin cfg0.N) : iblk m c 2 t = m ((c : Thread nD τ).loc main_arg2) := by blk_ext! [iblk, V, idx t]
theorem block_3 (c : Dev nD) (t : Fin cfg0.N) : iblk m c 3 t = m ((c : Thread nD τ).loc main_arg3) := by blk_ext! [iblk, V, idx t]
theorem block_4 (c : Dev nD) (t : Fin cfg0.N) : iblk m c 4 t = m ((c : Thread nD τ).loc main_arg4) := by blk_ext! [iblk, V, idx t]
theorem block_5 (c : Dev nD) (t : Fin cfg0.N) : iblk m c 5 t = m ((c : Thread nD τ).loc main_arg5) := by blk_ext! [iblk, V, idx t]
theorem block_6 (c : Dev nD) (t : Fin cfg0.N) : iblk m c 6 t = m ((c : Thread nD τ).loc main_arg6) := by blk_ext! [iblk, V, idx t]
theorem block_7 (c : Dev nD) (t : Fin cfg0.N) : iblk m c 7 t = m ((c : Thread nD τ).loc main_arg7) := by blk_ext! [iblk, V, idx t]
theorem block_8 (c : Dev nD) (t : Fin cfg0.N) : iblk m c 8 t = m ((c : Thread nD τ).loc main_arg8) := by blk_ext! [iblk, V, idx t]
theorem block_9 (c : Dev nD) (t : Fin cfg0.N) : iblk m c 9 t = m ((c : Thread nD τ).loc main_arg9) := by blk_ext! [iblk, V, idx t]

end Cert.Ker

end
-- ==== Proof.KerFinal.lean ====
/- The kernel's three output arrays after its last block, over the argument arrays. -/
module

public import proofs.«01_k».proof.Proof.KerArrays

@[expose] public section

set_option maxRecDepth 16384

noncomputable section

namespace Cert.Ker

open Idealize.ShloMosaic Idealize.ShloMosaic.TcCoe Idealize.SL.Sem Cert.KernelIdeal Cert.KernelIdeal.Gen Cert.Spec
open Idealize.ShloMosaic.Pipeline (Dat)

variable (m : (ℓ : Loc nD τ sig) → Buf (Elt Ideal) ℓ)

/-- The array's row a block's row is. -/
def at_ (t : Fin cfg0.N) (r : Fin 512) : Fin 65536 := ⟨t.val * 512 + r.val, by have := t.isLt; have := points; omega⟩

/-- The latent vector a grid point computes for its row `r` is the array row's. -/
theorem block_z (c : Dev nD) (t : Fin cfg0.N) (r : Fin 512) :
    blockZ (iblk m c 0 t) (iblk m c 1 t) (iblk m c 2 t) (iblk m c 3 t) (iblk m c 4 t) (iblk m c 5 t) (iblk m c 6 t) (iblk m c 7 t)
      (iblk m c 8 t) r = (args m c).z (at_ t r) := by
  unfold blockZ
  rw [block_x, block_1, block_2, block_3, block_4, block_5, block_6, block_7, block_8]
  rfl

/-- The quantised array: every row's nearest codebook row. -/
def rows (A : Args) : FVec Ideal S65536x64 .f32 := fun i => mat A.book (A.near (i 0)) (i 1)

/-- What a grid point leaves at an entry of the quantised block is the array's entry there. -/
theorem point10 (c : Dev nD) (t : Fin cfg0.N) (y : S512x64.Idx) (i : S65536x64.Idx)
    (h0 : (i 0 : ℕ) = t.val * 512 + y 0) (h1 : (i 1 : ℕ) = y 1) :
    k0_pay3 (iblk m c 9 t)
      (k0_pay8 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (k0_pay9 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (FloatOps.ofBits FTy.f32 1073741824#32) y = rows (args m c) i := by
  idx_vars y
  obtain rfl : i = ix2 (at_ t y0) y1 := by
    funext a
    fin_cases a
    · exact Fin.ext h0
    · exact Fin.ext h1
  refine (quantised_apply _ _ _ _ _ _ _ _ _ _ y0 y1).trans ?_
  rw [block_z, block_9]
  rfl

/-- The quantised array after the run. -/
theorem final10 (c : Dev nD) : (dats m 0 c).arrAt 10 (cfgs 0).N = rows (args m c) := by
  refine (dats m 0 c).arrAt_eq_of_covers 10 _ (by decide +kernel) fun t hf y => ?_
  blk_simp
  rw [after0_10]
  by_cases h0 : t.val % 128 = 0
  · rw [outsAt0_A m c t h0]; frame_out
    exact point10 m c t y _ (by blk_simp [idx t]) (by blk_simp [idx t])
  · rw [outsAt0_B m c t h0]; frame_out
    exact point10 m c t y _ (by blk_simp [idx t]) (by blk_simp [idx t])

/-- The index array: every row's nearest codebook row by number, a line per block. -/
def numbers (A : Args) : IVec S128x1x512 32 := fun i => BitVec.ofNat 32 (A.near ⟨(i 0).val * 512 + (i 2).val, by
  have h0 : (i 0).val < 128 := (i 0).isLt
  have h2 : (i 2).val < 512 := (i 2).isLt
  omega⟩).val

/-- What a grid point leaves at an entry of the index block is the array's entry there. -/
theorem point11 (c : Dev nD) (t : Fin cfg0.N) (y : S1x1x512.Idx) (i : S128x1x512.Idx)
    (h0 : (i 0 : ℕ) = t.val + y 0) (h2 : (i 2 : ℕ) = y 2) :
    k0_pay2
      (k0_pay8 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (k0_pay9 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (FloatOps.ofBits FTy.f32 1073741824#32) y = numbers (args m c) i := by
  idx_vars y
  obtain rfl : y0 = 0 := Subsingleton.elim _ _
  obtain rfl : y1 = 0 := Subsingleton.elim _ _
  refine (indices_apply _ _ _ _ _ _ _ _ _ _ y2).trans ?_
  rw [block_z, block_9]
  unfold numbers
  have h : at_ t y2 = ⟨(i 0).val * 512 + (i 2).val, by
      have h0 : (i 0).val < 128 := (i 0).isLt
      have h2 : (i 2).val < 512 := (i 2).isLt
      omega⟩ := Fin.ext (by
    have e0 : (i 0).val = t.val + 0 := h0
    have e2 : (i 2).val = y2.val := h2
    show t.val * 512 + y2.val = (i 0).val * 512 + (i 2).val
    rw [e0, e2]; rfl)
  rw [← h]
  rfl

/-- The index array after the run. -/
theorem final11 (c : Dev nD) : (dats m 0 c).arrAt 11 (cfgs 0).N = numbers (args m c) := by
  refine (dats m 0 c).arrAt_eq_of_covers 11 _ (by decide +kernel) fun t hf y => ?_
  blk_simp
  rw [after0_11]
  by_cases h0 : t.val % 128 = 0
  · rw [outsAt0_A m c t h0]; frame_out
    exact point11 m c t y _ (by blk_simp [idx t]) (by blk_simp [idx t])
  · rw [outsAt0_B m c t h0]; frame_out
    exact point11 m c t y _ (by blk_simp [idx t]) (by blk_simp [idx t])

/-- What a grid point adds to the error cell. -/
theorem point12 (c : Dev nD) (t : Fin cfg0.N) (o : Vec Ideal S1x1 .f32) (y : S1x1.Idx) :
    k0_pay5 (k0_pay7 (k0_pay6 (iblk m c 0 t) (iblk m c 1 t) (iblk m c 2 t) (iblk m c 3 t) (iblk m c 4 t)) (iblk m c 5 t)
        (iblk m c 6 t) (iblk m c 7 t) (iblk m c 8 t)) (iblk m c 9 t)
      (k0_pay8 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (k0_pay9 (k0_pay6 (iblk m c 0 t) (iblk m c 1 t) (iblk m c 2 t) (iblk m c 3 t) (iblk m c 4 t)) (iblk m c 5 t)
        (iblk m c 6 t) (iblk m c 7 t) (iblk m c 8 t) (iblk m c 9 t))
      (FloatOps.ofBits FTy.f32 1073741824#32) o y
      = o y + ∑ r, rowError ((args m c).z (at_ t r)) (mat (args m c).book) := by
  idx_vars y
  obtain rfl : y0 = 0 := Subsingleton.elim _ _
  obtain rfl : y1 = 0 := Subsingleton.elim _ _
  refine (error_apply _ _ _ _ _ _ _ _ _ _ o).trans ?_
  simp only [block_z, block_9]
  rfl

/-- The error cell after the run: the sum over all rows. -/
theorem final12 (c : Dev nD) : (dats m 0 c).arrAt 12 (cfgs 0).N = fun _ => (args m c).error := by
  refine (dats m 0 c).arrAt_eq_of_covers 12 _ (by decide +kernel) fun t hf y => ?_
  blk_simp
  rw [after0_12, Pipeline.eq_sum_fin_of_reset_step_apply_of_flush (fun n h => (outsAt0 m c n h).2.2) 128 (fun _ => 0)
    (fun t _ => ∑ r, rowError ((args m c).z (at_ t r)) (mat (args m c).book))
    (fun t h j => by rw [outsAt0_A m c t h]; frame_out; rw [point12, zero_apply])
    (fun t h j => by rw [outsAt0_B m c t h]; frame_out; rw [point12])
    t ((flush0_12 t).mp hf) _, zero_add]
  have ht : t.val < 128 := lt_of_lt_of_eq t.isLt points
  unfold Args.error
  refine Fin.sum_mul_add_congr fun s k hl => ?_
  have h : at_ ⟨128 * (t.val / 128) + s.val, by have := points; have := s.isLt; omega⟩ k = ⟨s.val * 512 + k.val, hl⟩ :=
    Fin.ext (by show (128 * (t.val / 128) + s.val) * 512 + k.val = s.val * 512 + k.val; omega)
  rw [h]

end Cert.Ker

end
-- ==== Proof.KerRun.lean ====
/- The kernel's run: its three results over the argument arrays, which end as they were. -/
module

public import proofs.«01_k».proof.Proof.KerFinal
public import Idealize.ShloMosaic.Lib.Claim

@[expose] public section

set_option maxRecDepth 16384

noncomputable section

namespace Cert.Ker

open Idealize.ShloMosaic Idealize.ShloMosaic.TcCoe Idealize.SL.Sem Cert.KernelIdeal Cert.KernelIdeal.Gen Cert.Spec

variable (m : (ℓ : Loc nD τ sig) → Buf (Elt Ideal) ℓ) (g : Dev nD → PrngReg)

/-- The quantised rows in the input's leading shape. -/
theorem reshape_rows (A : Args) :
    (shapeCast S64x1024x64 (rows A) shapeCasts_S65536x64_S64x1024x64 : FVec Ideal S64x1024x64 .f32) = A.quantised := by
  funext i
  idx_vars i
  pointwise [rows]
  rfl

/-- The numbers in the input's leading shape. -/
theorem reshape_numbers (A : Args) :
    (shapeCast S64x1024 (numbers A) shapeCasts_S128x1x512_S64x1024 : IVec S64x1024 32) = A.indices := by
  funext i
  idx_vars i
  pointwise [numbers]
  have h : (⟨(i0.val * 2 + i1.val / 512) * 512 + i1.val % 512, by omega⟩ : Fin 65536) = ⟨i0.val * 1024 + i1.val, by omega⟩ :=
    Fin.ext (by show (i0.val * 2 + i1.val / 512) * 512 + i1.val % 512 = i0.val * 1024 + i1.val; omega)
  exact congrArg (fun R => BitVec.ofNat 32 (A.near R).val) h

/-- The error cell as a scalar, times the factor. -/
theorem reshape_error (A : Args) :
    (mulf (shapeCast S_ (fun _ => A.error : FVec Ideal S1x1 .f32) shapeCasts_S1x1_S_) (constant S_ .f32 0x34A00000#32)
      : FVec Ideal S_ .f32) = A.loss := rfl

/-- The first result is the quantised array reshaped. -/
theorem tail_v4 (V : Valuation τ sig (Elt Ideal)) :
    StableHlo.after [hostOps1].flatten V (Proc.devRef .tc main_v4)
      = (shapeCast S64x1024x64 (V (Proc.devRef .tc main_v1_0) : FVec Ideal S65536x64 .f32) shapeCasts_S65536x64_S64x1024x64
          : FVec Ideal S64x1024x64 .f32) := by
  rfl

/-- The second result is the error cell times the factor. -/
theorem tail_v3 (V : Valuation τ sig (Elt Ideal)) :
    StableHlo.after [hostOps1].flatten V (Proc.devRef .tc main_v3)
      = (mulf (shapeCast S_ (V (Proc.devRef .tc main_v1_2) : FVec Ideal S1x1 .f32) shapeCasts_S1x1_S_)
          (constant S_ .f32 0x34A00000#32) : FVec Ideal S_ .f32) := by
  rfl

/-- The third result is the index array reshaped. -/
theorem tail_v5 (V : Valuation τ sig (Elt Ideal)) :
    StableHlo.after [hostOps1].flatten V (Proc.devRef .tc main_v5)
      = (shapeCast S64x1024 (V (Proc.devRef .tc main_v1_1) : IVec S128x1x512 32) shapeCasts_S128x1x512_S64x1024
          : IVec S64x1024 32) := by
  rfl

/-- The kernel runs to its end with its three results at the functions of its arguments. -/
theorem run_results : θ_run defs (onTc (τ := τ) (main (F := Ideal))) ⟨m, fun _ => 0, g⟩ fun r => ∀ c : Dev nD,
    r.2.mem ((c : Thread nD τ).loc main_v4) = (args m c).quantised
    ∧ r.2.mem ((c : Thread nD τ).loc main_v3) = (args m c).loss
    ∧ r.2.mem ((c : Thread nD τ).loc main_v5) = (args m c).indices := by
  run_from Gen.run_main m g
  · refine (tail_v4 _).trans ((congrArg (fun x => shapeCast S64x1024x64 x shapeCasts_S65536x64_S64x1024x64) ?_).trans (reshape_rows _))
    exact (Pipeline.withArrays_arr spec0 launch0.win.arr_inj c _ _ 10).trans (final10 m c)
  · refine (tail_v3 _).trans ((congrArg (fun x => mulf (shapeCast S_ x shapeCasts_S1x1_S_) (constant S_ .f32 0x34A00000#32)) ?_).trans
      (reshape_error _))
    exact (Pipeline.withArrays_arr spec0 launch0.win.arr_inj c _ _ 12).trans (final12 m c)
  · refine (tail_v5 _).trans ((congrArg (fun x => shapeCast S64x1024 x shapeCasts_S128x1x512_S64x1024) ?_).trans (reshape_numbers _))
    exact (Pipeline.withArrays_arr spec0 launch0.win.arr_inj c _ _ 11).trans (final11 m c)

/-- The kernel's run with its arguments left as they were. -/
theorem run : θ_run defs (onTc (τ := τ) (main (F := Ideal))) ⟨m, fun _ => 0, g⟩ fun r => ∀ c : Dev nD,
    r.2.mem ((c : Thread nD τ).loc main_v4) = (args m c).quantised
    ∧ r.2.mem ((c : Thread nD τ).loc main_v3) = (args m c).loss
    ∧ r.2.mem ((c : Thread nD τ).loc main_v5) = (args m c).indices
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) := by
  refine θ_run_mono (θ_run_and (run_results m g) (Gen.unchanged m g)) fun r hr c => ?_
  exact ⟨(hr.1 c).1, (hr.1 c).2.1, (hr.1 c).2.2, hr.2 c⟩

end Cert.Ker

end
-- ==== Proof.RefStages.lean ====
/- What each stretch of the reference leaves at an index, in the row functions of the specification. -/
module

public import proofs.«01_k».proof.Proof.RefOps
public import proofs.«01_k».proof.Proof.Argmin
public import Idealize.ShloMosaic.Lib.Pointwise

@[expose] public section

set_option maxRecDepth 16384
set_option maxHeartbeats 1600000

noncomputable section

namespace Cert.Ref

open Idealize.ShloMosaic Idealize.SL.Sem Cert.ReferenceIdeal Cert.ReferenceIdeal.Gen Idealize.ShloMosaic.StableHlo Cert.Spec

/-- The first layer, normalised. -/
theorem hidden_read (V : Valuation τ sig (Elt Ideal)) (i : Fin 64) (j : Fin 1024) (k : Fin 256) :
    (after opsHidden V (Proc.devRef .tc main_v27) : FVec Ideal S64x1024x256 .f32) (ix3 i j k)
      = (scaledDiv (lit 0x43800000#32) eps
          (dense (fun x => (V (Proc.devRef .tc main_arg0) : FVec Ideal S64x1024x384 .f32) (ix3 i j x))
            (mat (V (Proc.devRef .tc main_arg1) : FVec Ideal S384x256 .f32)) (vec (V (Proc.devRef .tc main_arg2) : FVec Ideal S256 .f32))) k
          * vec (V (Proc.devRef .tc main_arg3) : FVec Ideal S256 .f32) k
          + vec (V (Proc.devRef .tc main_arg4) : FVec Ideal S256 .f32) k : EReal) := by
  simp only [opsHidden, after_cons, after_nil]
  after_results_simp
  pointwise
  rfl

/-- The error unit and the second layer. -/
theorem gelu_read (V : Valuation τ sig (Elt Ideal)) (i : Fin 64) (j : Fin 1024) (k : Fin 64) :
    (after opsGelu V (Proc.devRef .tc main_v38) : FVec Ideal S64x1024x64 .f32) (ix3 i j k)
      = dense (fun x => geluC ((V (Proc.devRef .tc main_v27) : FVec Ideal S64x1024x256 .f32) (ix3 i j x)))
          (mat (V (Proc.devRef .tc main_arg5) : FVec Ideal S256x64 .f32)) (vec (V (Proc.devRef .tc main_arg6) : FVec Ideal S64 .f32)) k := by
  simp only [opsGelu, after_cons, after_nil]
  after_results_simp
  pointwise
  rfl

/-- The second layer, normalised, its rows counted over the two leading axes. -/
theorem latent_read (V : Valuation τ sig (Elt Ideal)) (r : Fin 65536) (k : Fin 64) :
    (after opsLatent (after opsStat V) (Proc.devRef .tc main_v63) : FVec Ideal S65536x64 .f32) (ix2 r k)
      = (scaledDiv (lit 0x42800000#32) eps
          (fun x => (V (Proc.devRef .tc main_v38) : FVec Ideal S64x1024x64 .f32)
            (ix3 ⟨r.val / 1024, by omega⟩ ⟨r.val % 1024, by omega⟩ x)) k
          * vec (V (Proc.devRef .tc main_arg7) : FVec Ideal S64 .f32) k
          + vec (V (Proc.devRef .tc main_arg8) : FVec Ideal S64 .f32) k : EReal) := by
  simp only [opsLatent, opsStat, after_cons, after_nil]
  after_results_simp
  pointwise
  rfl

/-- The distances. -/
theorem dist_read (V : Valuation τ sig (Elt Ideal)) (r : Fin 65536) (j : Fin 1024) :
    (after opsDist V (Proc.devRef .tc main_v77) : FVec Ideal S65536x1024 .f32) (ix2 r j)
      = dist (row (V (Proc.devRef .tc main_v63) : FVec Ideal S65536x64 .f32) r)
          (mat (V (Proc.devRef .tc main_arg9) : FVec Ideal S1024x64 .f32)) j := by
  simp only [opsDist, after_cons, after_nil]
  after_results_simp
  pointwise
  rfl

/-- The straight-through result. -/
theorem quantised_read (V : Valuation τ sig (Elt Ideal)) (i : Fin 64) (j : Fin 1024) (k : Fin 64) :
    (after opsResults V (Proc.devRef .tc main_v92) : FVec Ideal S64x1024x64 .f32) (ix3 i j k)
      = mat (V (Proc.devRef .tc main_v63) : FVec Ideal S65536x64 .f32) ⟨i.val * 1024 + j.val, by omega⟩ k
          + (mat (V (Proc.devRef .tc main_v79) : FVec Ideal S65536x64 .f32) ⟨i.val * 1024 + j.val, by omega⟩ k
            - mat (V (Proc.devRef .tc main_v63) : FVec Ideal S65536x64 .f32) ⟨i.val * 1024 + j.val, by omega⟩ k) := by
  simp only [opsResults, after_cons, after_nil]
  after_results_simp
  pointwise

/-- The sum of a matrix's squared differences from another. -/
def sumSq (q z : FVec Ideal S65536x64 .f32) : EReal := ∑ r, ∑ k, (mat q r k - mat z r k) * (mat q r k - mat z r k)

/-- The loss from the squared differences' sum. -/
theorem loss_read (V : Valuation τ sig (Elt Ideal)) :
    (after opsResults V (Proc.devRef .tc main_v89) : FVec Ideal S_ .f32) ix0
      = Ideal.div (sumSq (V (Proc.devRef .tc main_v79)) (V (Proc.devRef .tc main_v63))) (lit 0x4A800000#32)
        + lit 0x3E800000#32 * Ideal.div (sumSq (V (Proc.devRef .tc main_v79)) (V (Proc.devRef .tc main_v63))) (lit 0x4A800000#32) := by
  simp only [opsResults, after_cons, after_nil]
  after_results_simp
  pointwise
  rfl

/-- The numbers in the input's leading shape. -/
theorem indices_read (V : Valuation τ sig (Elt Ideal)) (i : Fin 64) (j : Fin 1024) :
    (after opsResults V (Proc.devRef .tc main_v93) : IVec S64x1024 32) (ix2 i j)
      = (V (Proc.devRef .tc main_v78) : IVec S65536 32) (ix1 ⟨i.val * 1024 + j.val, by omega⟩) := by
  simp only [opsResults, after_cons, after_nil]
  after_results_simp
  pointwise

end Cert.Ref

end
-- ==== Proof.RefArgmin.lean ====
/- The reference's index of least distance, and the codebook row it takes by it. -/
module

public import proofs.«01_k».proof.Proof.RefStages

@[expose] public section

set_option maxRecDepth 16384
set_option maxHeartbeats 1600000

noncomputable section

namespace Cert.Ref

open Idealize.ShloMosaic Idealize.SL.Sem Cert.ReferenceIdeal Cert.ReferenceIdeal.Gen Idealize.ShloMosaic.StableHlo Cert.Spec

/-- The pass's step as a choice: the first pair when its value is less, or equal with the smaller index. -/
theorem reducer_eq (a b : EReal × BitVec 32) :
    reducer_argmin_f32_i32 (F := Ideal) a b
      = (if a.1 < b.1 then a.1 else b.1, if a.1 < b.1 ∨ a.1 = b.1 ∧ a.2.toInt < b.2.toInt then a.2 else b.2) := by
  unfold reducer_argmin_f32_i32
  simp only [Ideal.cmpf_def]
  by_cases h1 : a.1 < b.1 <;> by_cases h2 : a.1 = b.1 <;> by_cases h3 : a.2.toInt < b.2.toInt <;>
    simp [Ideal.cmp, IntOp.cmpi, IntOp.ori, IntOp.andi, BitVec.slt, Scalar.select, h1, h2, h3]

/-- A pair that is least on the left is kept. -/
theorem reducer_left (m p : EReal × BitVec 32) (h : LexLe m p) : reducer_argmin_f32_i32 (F := Ideal) m p = m := by
  rw [reducer_eq]
  rcases h with h | ⟨h, h'⟩
  · rw [if_pos h, if_pos (Or.inl h)]
  · rcases lt_or_eq_of_le h' with h'' | h''
    · rw [if_neg h.not_lt, if_pos (Or.inr ⟨h, h''⟩), ← h]
    · rw [if_neg h.not_lt, if_neg (by rintro (h1 | ⟨_, h1⟩) <;> [exact h.not_lt h1; exact absurd h'' h1.ne])]
      exact Prod.ext h.symm (BitVec.eq_of_toInt_eq h''.symm)

/-- A pair that is least on the right is taken. -/
theorem reducer_right (m p : EReal × BitVec 32) (h : LexLe m p) : reducer_argmin_f32_i32 (F := Ideal) p m = m := by
  rw [reducer_eq]
  rcases h with h | ⟨h, h'⟩
  · rw [if_neg h.le.not_gt, if_neg (by rintro (h1 | ⟨h1, _⟩) <;> [exact h.le.not_gt h1; exact h.ne' h1])]
  · rw [if_neg h.symm.not_lt, if_neg (by rintro (h1 | ⟨_, h1⟩) <;> [exact h.symm.not_lt h1; exact absurd h1 (not_lt.2 h')])]

/-- What bounds both pairs bounds the chosen one. -/
theorem reducer_lex (m p q : EReal × BitVec 32) (hp : LexLe m p) (hq : LexLe m q) :
    LexLe m (reducer_argmin_f32_i32 (F := Ideal) p q) := by
  rw [reducer_eq]
  by_cases h : p.1 < q.1
  · rw [if_pos h, if_pos (Or.inl h)]; exact hp
  · rw [if_neg h]
    split
    · next h' =>
      rcases h' with h' | ⟨h', _⟩
      · exact absurd h' h
      · rw [← h']; exact hp
    · exact hq

/-- The pairs one row's pass goes over: the row's values with their indices. -/
theorem mem_fiber (D : FVec Ideal S65536x1024 .f32) (r : Fin 65536) (p : EReal × BitVec 32) :
    p ∈ Host.argReduceFiber D (iotaInDim S65536x1024 32 1) reducesTo_S65536x1024_S65536_d1 (ix1 r)
      ↔ ∃ j : Fin 1024, p = ((D (ix2 r j) : EReal), BitVec.ofNat 32 j.val) := by
  unfold Host.argReduceFiber
  simp only [List.mem_map, List.mem_filter, List.mem_finRange, true_and, decide_eq_true_eq]
  constructor
  · rintro ⟨n, hn, rfl⟩
    generalize S65536x1024.rowMajor.symm n = i at hn ⊢
    have h0 := Shape.ReducesTo.drop_apply_val_of_eq reducesTo_S65536x1024_S65536_d1 i 0 0
    rw [hn] at h0
    have hi : i = ix2 r (i 1) := by
      funext a
      fin_cases a
      · exact Fin.ext h0.symm
      · rfl
    exact ⟨i 1, Prod.ext (congrArg D hi) rfl⟩
  · rintro ⟨j, rfl⟩
    refine ⟨S65536x1024.rowMajor (ix2 r j), ?_, ?_⟩
    · rw [Equiv.symm_apply_apply]
      funext a
      fin_cases a
      exact Fin.ext (Shape.ReducesTo.drop_apply_val_of_eq reducesTo_S65536x1024_S65536_d1 (ix2 r j) 0 0)
    · rw [Equiv.symm_apply_apply]
      rfl

/-- The index the pass ends with is the first least index of the row. -/
theorem argmin_eq (D : FVec Ideal S65536x1024 .f32) (r : Fin 65536) :
    (Host.argReduce (reducer_argmin_f32_i32 (F := Ideal)) D (iotaInDim S65536x1024 32 1) (constant S_ .f32 0x7F800000#32)
      (constantI S_ 32 0#32) reducesTo_S65536x1024_S65536_d1 h_S_ (ix1 r)).2
      = BitVec.ofNat 32 (firstMin fun j : Fin 1024 => (D (ix2 r j) : EReal)).val := by
  rw [Ideal.argReduce_eq_reduce2, Host.reduce2_eq_foldl_fiber]
  have h := foldl_lex (reducer_argmin_f32_i32 (F := Ideal))
    ((D (ix2 r (firstMin fun j : Fin 1024 => (D (ix2 r j) : EReal))) : EReal),
      BitVec.ofNat 32 (firstMin fun j : Fin 1024 => (D (ix2 r j) : EReal)).val)
    (fun p => reducer_left _ p) (fun p => reducer_right _ p) (fun p q => reducer_lex _ p q)
    (Host.argReduceFiber D (iotaInDim S65536x1024 32 1) reducesTo_S65536x1024_S65536_d1 (ix1 r)) (⊤, 0#32)
    (lexLe_firstMin_top fun j : Fin 1024 => (D (ix2 r j) : EReal))
    (fun p hp => by
      obtain ⟨j, rfl⟩ := (mem_fiber D r p).1 hp
      exact lexLe_firstMin (fun j : Fin 1024 => (D (ix2 r j) : EReal)) j)
    (Or.inr ((mem_fiber D r _).2 ⟨_, rfl⟩))
  have ht : ((constant S_ .f32 0x7F800000#32 : FVec Ideal S_ .f32) (Shape.Idx.first h_S_), (constantI S_ 32 0#32) (Shape.Idx.first h_S_))
      = ((⊤ : EReal), 0#32) := Prod.ext lit_infinity rfl
  rw [ht]
  exact congrArg Prod.snd h

/-- The reference's index array holds each row's first least distance's index. -/
theorem argmin_read (V : Valuation τ sig (Elt Ideal)) (r : Fin 65536) :
    (after opsArgmin V (Proc.devRef .tc main_v78) : IVec S65536 32) (ix1 r)
      = BitVec.ofNat 32 (firstMin (row (V (Proc.devRef .tc main_v77) : FVec Ideal S65536x1024 .f32) r)).val := by
  simp only [opsArgmin, after_cons, after_nil]
  after_results_simp
  pointwise
  exact argmin_eq _ r

end Cert.Ref

end
-- ==== Proof.RefTake.lean ====
/- The codebook rows the reference takes by number: with every number a codebook row's, each row is that row. -/
module

public import proofs.«01_k».proof.Proof.RefStages
public import Idealize.ShloMosaic.Lib.ReduceAll

@[expose] public section

set_option maxRecDepth 16384
set_option maxHeartbeats 1600000

noncomputable section

namespace Cert.Ref

open Idealize.ShloMosaic Idealize.SL.Sem Cert.ReferenceIdeal Cert.ReferenceIdeal.Gen Idealize.ShloMosaic.StableHlo Cert.Spec

/-- A codebook row's number read as a signed word is that number. -/
theorem toInt_number (k : Fin 1024) : (BitVec.ofNat 32 k.val).toInt = k.val := toInt_word (by omega)

/-- The gather's operand index: the start index's row, the result's column. -/
theorem operandIdx_eq (I : IVec S65536x1 32) (r : Fin 65536) (c : Fin 64) (k : Fin 1024)
    (h : I (ix2 r 0) = BitVec.ofNat 32 k.val) :
    gather_S1024x64_S65536x1_S65536x64_1_0_n_n_0_1_164.operandIdx (ix2 r c) I = ix2 k c := by
  have hs : gather_S1024x64_S65536x1_S65536x64_1_0_n_n_0_1_164.siIdx (ix2 r c) ⟨0, by decide⟩ = ix2 r 0 := by
    funext a
    fin_cases a <;> rfl
  funext a
  fin_cases a
  · refine Fin.ext ?_
    show min (I (gather_S1024x64_S65536x1_S65536x64_1_0_n_n_0_1_164.siIdx (ix2 r c) ⟨0, by decide⟩)).toInt.toNat (1024 - 1) + 0 + 0 = k.val
    rw [hs, h, toInt_number]
    omega
  · refine Fin.ext ?_
    show 0 + 0 + c.val = c.val
    omega

/-- Numbers that are none of them negative stay as they are when negative ones are wrapped around. -/
theorem wrapped_eq (I : IVec S65536 32) (k : Fin 65536 → Fin 1024) (h : ∀ r, I (ix1 r) = BitVec.ofNat 32 (k r).val) :
    select (cmpi .slt I (broadcastInDim S65536 ![] bcast_S_S65536 (constantI S_ 32 0#32)))
      (addi I (broadcastInDim S65536 ![] bcast_S_S65536 (constantI S_ 32 1024#32))) I = I := by
  funext r
  idx_vars r
  pointwise
  rw [h]
  have hk : ¬ (BitVec.ofNat 32 (k r0).val).toInt < 0 := by rw [toInt_number]; simp
  simp [IntOp.cmpi, BitVec.slt, Scalar.select, hk]

/-- Numbers in range pass the test of both ends. -/
theorem in_range (J : IVec S65536x1 32) (k : Fin 65536 → Fin 1024) (h : ∀ r, J (ix2 r 0) = BitVec.ofNat 32 (k r).val) (r : S65536.Idx) :
    Host.reduce IntOp.andi
      (andi (cmpi .sge J (broadcastInDim S65536x1 ![] bcast_S_S65536x1 (constantI S_ 32 0#32)))
        (cmpi .sle J (broadcastInDim S65536x1 ![0, 1] bcast_S1x1_S65536x1_0_1
          (broadcastInDim S1x1 ![1] bcast_S1_S1x1_1 (constantI S1 32 1023#32)))))
      (constantI S_ 1 1#1) reducesTo_S65536x1_S65536_d1 h_S_ r = 1#1 := by
  refine Host.reduce_andi_one _ _ _ _ _ rfl fun i => ?_
  obtain ⟨q, rfl⟩ : ∃ q : Fin 65536, i = ix2 q 0 := by
    refine ⟨i 0, ?_⟩
    funext a
    fin_cases a
    · rfl
    · exact Subsingleton.elim (α := Fin 1) _ _
  pointwise
  rw [h]
  have h0 : 0 ≤ (BitVec.ofNat 32 (k q).val).toInt := by rw [toInt_number]; simp
  have h1 : (BitVec.ofNat 32 (k q).val).toInt ≤ 1023 := by rw [toInt_number]; omega
  simp [IntOp.cmpi, IntOp.andi, BitVec.sle, h0, h1]

/-- The numbers as a column, read at a row. -/
theorem column_read (I : IVec S65536 32) (r : Fin 65536) :
    (broadcastInDim S65536x1 ![0] bcast_S65536_S65536x1_0 I : IVec S65536x1 32) (ix2 r 0) = I (ix1 r) := by
  pointwise

/-- Row `r` of the rows gathered is the codebook row of `r`'s number. -/
theorem gather_eq (X : FVec Ideal S1024x64 .f32) (I : IVec S65536 32) (k : Fin 65536 → Fin 1024)
    (h : ∀ r, I (ix1 r) = BitVec.ofNat 32 (k r).val) (r : Fin 65536) (c : Fin 64) :
    Host.gather gather_S1024x64_S65536x1_S65536x64_1_0_n_n_0_1_164 X (broadcastInDim S65536x1 ![0] bcast_S65536_S65536x1_0 I) (ix2 r c)
      = X (ix2 (k r) c) :=
  congrArg X (operandIdx_eq _ r c (k r) ((column_read I r).trans (h r)))

/-- Row `r` of the rows taken is the codebook row of `r`'s number. -/
theorem take_read (V : Valuation τ sig (Elt Ideal)) (k : Fin 65536 → Fin 1024)
    (h : ∀ r, (V (Proc.devRef .tc main_v78) : IVec S65536 32) (ix1 r) = BitVec.ofNat 32 (k r).val) (r : Fin 65536) (c : Fin 64) :
    (after opsTake V (Proc.devRef .tc main_v79) : FVec Ideal S65536x64 .f32) (ix2 r c)
      = mat (V (Proc.devRef .tc main_arg9) : FVec Ideal S1024x64 .f32) (k r) c := by
  simp only [opsTake, after_cons, after_nil]
  after_results_simp
  pointwise
  rw [wrapped_eq _ k h]
  generalize (V (Proc.devRef .tc main_v78)) = I at h ⊢
  generalize (V (Proc.devRef .tc main_arg9)) = X
  rw [in_range _ k fun r => (column_read I r).trans (h r), gather_eq X I k h r c]
  rfl

end Cert.Ref

end
-- ==== Proof.RefValues.lean ====
/- The reference's three results over its argument arrays. -/
module

public import proofs.«01_k».proof.Proof.RefFrame
public import proofs.«01_k».proof.Proof.RefArgmin
public import proofs.«01_k».proof.Proof.RefTake
public import proofs.«01_k».proof.Proof.Scalars

@[expose] public section

set_option maxRecDepth 16384
set_option maxHeartbeats 1600000

noncomputable section

namespace Cert.Ref

open Idealize.ShloMosaic Idealize.SL.Sem Cert.ReferenceIdeal Cert.ReferenceIdeal.Gen Idealize.ShloMosaic.StableHlo Cert.Spec

variable (V : Valuation τ sig (Elt Ideal))

/-- The argument arrays among the buffers' contents. -/
def argsOf : Args where
  x := V (Proc.devRef .tc main_arg0)
  W₁ := V (Proc.devRef .tc main_arg1)
  b₁ := V (Proc.devRef .tc main_arg2)
  g₁ := V (Proc.devRef .tc main_arg3)
  be₁ := V (Proc.devRef .tc main_arg4)
  W₂ := V (Proc.devRef .tc main_arg5)
  b₂ := V (Proc.devRef .tc main_arg6)
  g₂ := V (Proc.devRef .tc main_arg7)
  be₂ := V (Proc.devRef .tc main_arg8)
  book := V (Proc.devRef .tc main_arg9)

/-- A buffer the first two stretches do not write keeps its contents. -/
theorem V2_kept (r : Ref sig .tc) (h1 : r ∉ hiddenWritten) (h2 : r ∉ geluWritten) :
    V2 V (Proc.devRef .tc r) = V (Proc.devRef .tc r) := by
  rw [V2, after_gelu _ _ h2, V1, after_hidden _ _ h1]

/-- The codebook stands when the distances are computed. -/
theorem V3_book : V3 V (Proc.devRef .tc main_arg9) = V (Proc.devRef .tc main_arg9) := by
  rw [V3, after_latent _ _ (by decide), after_stat _ _ (by decide), V2_kept _ _ (by decide) (by decide)]

/-- The codebook stands when its rows are taken. -/
theorem V5_book : V5 V (Proc.devRef .tc main_arg9) = V (Proc.devRef .tc main_arg9) := by
  rw [V5, after_argmin _ _ (by decide), V4, after_dist _ _ (by decide), V3_book]

/-- The latent rows stand when the results are computed. -/
theorem V6_latent : V6 V (Proc.devRef .tc main_v63) = V3 V (Proc.devRef .tc main_v63) := by
  rw [V6, after_take _ _ (by decide), V5, after_argmin _ _ (by decide), V4, after_dist _ _ (by decide)]

/-- The numbers stand when the results are computed. -/
theorem V6_numbers : V6 V (Proc.devRef .tc main_v78) = V5 V (Proc.devRef .tc main_v78) := by
  rw [V6, after_take _ _ (by decide)]

/-- The error unit of the first layer is the hidden row. -/
theorem hidden_eq (i : Fin 64) (j : Fin 1024) (k : Fin 256) :
    geluC ((V1 V (Proc.devRef .tc main_v27) : FVec Ideal S64x1024x256 .f32) (ix3 i j k))
      = hidden (fun x => (argsOf V).x (ix3 i j x)) (mat (argsOf V).W₁) (vec (argsOf V).b₁) (vec (argsOf V).g₁) (vec (argsOf V).be₁) k := by
  refine (congrArg geluC (hidden_read V i j k)).trans ?_
  rw [geluC_eq, scaledDiv_256]
  rfl

/-- The second layer's product of a row. -/
theorem layer_eq (i : Fin 64) (j : Fin 1024) (k : Fin 64) :
    (V2 V (Proc.devRef .tc main_v38) : FVec Ideal S64x1024x64 .f32) (ix3 i j k)
      = dense (hidden (fun x => (argsOf V).x (ix3 i j x)) (mat (argsOf V).W₁) (vec (argsOf V).b₁) (vec (argsOf V).g₁)
          (vec (argsOf V).be₁)) (mat (argsOf V).W₂) (vec (argsOf V).b₂) k := by
  refine (gelu_read (V1 V) i j k).trans ?_
  rw [funext (hidden_eq V i j), V1, after_hidden _ main_arg5 (by decide), after_hidden _ main_arg6 (by decide)]
  rfl

/-- The latent rows. -/
theorem latent_eq (r : Fin 65536) : row (V3 V (Proc.devRef .tc main_v63) : FVec Ideal S65536x64 .f32) r = (argsOf V).z r := by
  funext k
  refine (latent_read (V2 V) r k).trans ?_
  rw [scaledDiv_64, V2_kept V main_arg7 (by decide) (by decide), V2_kept V main_arg8 (by decide) (by decide)]
  exact congrArg (fun p => scaled (lit 0x42800000#32) eps p k * vec (argsOf V).g₂ k + vec (argsOf V).be₂ k) (funext fun x => layer_eq V _ _ x)

/-- The numbers of the nearest codebook rows. -/
theorem number_eq (r : Fin 65536) :
    (V5 V (Proc.devRef .tc main_v78) : IVec S65536 32) (ix1 r) = BitVec.ofNat 32 ((argsOf V).near r).val := by
  refine (argmin_read (V4 V) r).trans (congrArg (fun d => BitVec.ofNat 32 (firstMin d).val) (funext fun j => ?_))
  refine (dist_read (V3 V) r j).trans ?_
  rw [latent_eq, V3_book]
  rfl

/-- The nearest codebook rows. -/
theorem taken_eq (r : Fin 65536) (c : Fin 64) :
    mat (V6 V (Proc.devRef .tc main_v79) : FVec Ideal S65536x64 .f32) r c = mat (argsOf V).book ((argsOf V).near r) c := by
  refine (take_read (V5 V) (argsOf V).near (number_eq V) r c).trans ?_
  rw [V5_book]
  rfl

/-- The latent rows still stand after the codebook rows are taken. -/
theorem latent_kept (r : Fin 65536) (c : Fin 64) :
    mat (V6 V (Proc.devRef .tc main_v63) : FVec Ideal S65536x64 .f32) r c = (argsOf V).z r c := by
  rw [V6_latent]
  exact congrFun (latent_eq V r) c

/-- The first result, the second normalisation's scale and shift being real. -/
theorem quantised_eq (hg : ∀ k, ∃ a : ℝ, vec (argsOf V).g₂ k = a) (hb : ∀ k, ∃ a : ℝ, vec (argsOf V).be₂ k = a) :
    (V7 V (Proc.devRef .tc main_v92) : FVec Ideal S64x1024x64 .f32) = (argsOf V).quantised := by
  funext i
  idx_vars i
  refine (quantised_read (V6 V) i0 i1 i2).trans ?_
  rw [latent_kept, taken_eq]
  exact straight_through _ (latent_real _ _ _ _ _ _ (hg _) (hb _))

/-- The squared differences' sum is the total error. -/
theorem sumSq_eq : sumSq (V6 V (Proc.devRef .tc main_v79)) (V6 V (Proc.devRef .tc main_v63)) = (argsOf V).error := by
  refine Finset.sum_congr rfl fun r _ => Finset.sum_congr rfl fun k _ => ?_
  exact congrArg₂ (fun q z : EReal => (q - z) * (q - z)) (taken_eq V r k) (latent_kept V r k)

/-- The second result. -/
theorem loss_eq : (V7 V (Proc.devRef .tc main_v89) : FVec Ideal S_ .f32) = (argsOf V).loss := by
  funext i
  obtain rfl : i = ix0 := funext fun a => a.elim0
  refine (loss_read (V6 V)).trans ?_
  rw [sumSq_eq]
  exact loss_factor _ (Finset.sum_nonneg fun r _ => rowError_nonneg _ _)

/-- The third result. -/
theorem indices_eq : (V7 V (Proc.devRef .tc main_v93) : IVec S64x1024 32) = (argsOf V).indices := by
  funext i
  idx_vars i
  refine (indices_read (V6 V) i0 i1).trans ?_
  rw [V6_numbers]
  exact number_eq V _

end Cert.Ref

end
-- ==== Proof.Finite.lean ====
/- What the precondition says: every entry of the second normalisation's scale and shift is real. -/
module

public import proofs.«01_k».proof.Pre_affine_finite
public import proofs.«01_k».proof.Proof.Scalars
public import Idealize.ShloMosaic.Lib.ReduceAll

@[expose] public section

set_option maxRecDepth 16384

noncomputable section

namespace Cert.Finite

open Idealize.ShloMosaic Cert.Pre_affine_finite Cert.Spec

/-- The shape facts the precondition states. -/
theorem facts : Cert.Pre_affine_finite.Facts where
  bcast_S_S64 := by decide
  reducesTo_S64_S_d0 := by decide
  h_S_ := by decide

/-- An extended real of magnitude below infinity is real. -/
theorem real_of_abs_lt {a : EReal} (h : max a (-a) < ⊤) : ∃ r : ℝ, a = r := by
  refine ⟨a.toReal, (EReal.coe_toReal ?_ ?_).symm⟩
  · rintro rfl; simp at h
  · rintro rfl; simp at h

/-- A vector whose magnitudes all pass the test against infinity has real entries. -/
theorem real_of_test [Facts] (v : FVec Ideal S64 .f32)
    (h : Host.reduce IntOp.andi
      (cmpf .olt (Host.absf v) (broadcastInDim S64 ![] Facts.bcast_S_S64 (constant S_ .f32 0x7F800000#32)))
      (constantI S_ 1 1#1) Facts.reducesTo_S64_S_d0 Facts.h_S_ ix0 = 1#1) (k : Fin 64) : ∃ r : ℝ, vec v k = r := by
  have hk : (cmpf .olt (Host.absf v) (broadcastInDim S64 ![] Facts.bcast_S_S64 (constant S_ .f32 0x7F800000#32))) (ix1 k) = 1#1 :=
    Host.reduce_andi_eq_one _ _ _ _ _ h _ (funext fun a => a.elim0)
  refine real_of_abs_lt ?_
  have hk' : BitVec.ofBool (decide (max (v (ix1 k)) (-v (ix1 k)) < (lit 0x7F800000#32 : EReal))) = 1#1 := hk
  rw [lit_infinity] at hk'
  by_contra hn
  rw [decide_eq_false hn] at hk'
  exact absurd hk' (by decide)

/-- Under the precondition the scale and the shift have real entries. -/
theorem real_of_pre [Facts] (a0 : FVec Ideal S64x1024x384 .f32) (a1 : FVec Ideal S384x256 .f32) (a2 a3 a4 : FVec Ideal S256 .f32)
    (a5 : FVec Ideal S256x64 .f32) (a6 a7 a8 : FVec Ideal S64 .f32) (a9 : FVec Ideal S1024x64 .f32)
    (h : fn a0 a1 a2 a3 a4 a5 a6 a7 a8 a9 = fun _ => 1#1) :
    (∀ k, ∃ r : ℝ, vec a7 k = r) ∧ ∀ k, ∃ r : ℝ, vec a8 k = r := by
  obtain ⟨h7, h8⟩ := IntOp.andi_eq_one.1 (congrFun h ix0)
  exact ⟨real_of_test a7 h7, real_of_test a8 h8⟩

end Cert.Finite

end
-- ==== Proof.Equation.lean ====
/- The two programs' results over the argument arrays they share. -/
module

public import proofs.«01_k».proof.Defs
public import proofs.«01_k».proof.Proof.KerRun
public import proofs.«01_k».proof.Proof.RefValues
public import proofs.«01_k».proof.Proof.Finite

@[expose] public section

set_option maxRecDepth 16384

noncomputable section

namespace Cert.Equation

open Idealize.ShloMosaic Idealize.SL.Sem Cert.Spec

/-- Under the precondition kernel and reference end with the same three results, and their arguments as they were. -/
theorem equation [Cert.Pre_affine_finite.Facts] : Cert.algebraic_KernelIdeal_ReferenceIdeal_pre_affine_finite := by
  intro m g m' g' hpre hagree
  refine ⟨fun c => (Cert.Ker.args m c).quantised, fun c => (Cert.Ker.args m c).loss, fun c => (Cert.Ker.args m c).indices,
    Cert.Ker.run m g, ?_⟩
  refine θ_run_mono (Cert.Ref.run m' g') fun r h c => ?_
  have hargs : Cert.Ref.argsOf (StableHlo.launchContents m' c) = Cert.Ker.args m c := by
    obtain ⟨h0, h1, h2, h3, h4, h5, h6, h7, h8, h9⟩ := hagree c
    unfold Cert.Ref.argsOf Cert.Ker.args
    congr 1
  have hreal : (∀ k, ∃ a : ℝ, vec (Cert.Ker.args m c).g₂ k = a) ∧ ∀ k, ∃ a : ℝ, vec (Cert.Ker.args m c).be₂ k = a :=
    Cert.Finite.real_of_pre _ _ _ _ _ _ _ _ _ _ (hpre c)
  refine ⟨?_, ?_, ?_, ?_⟩
  · rw [← hargs] at hreal
    exact (h c _).trans ((Cert.Ref.quantised_eq _ hreal.1 hreal.2).trans (congrArg Args.quantised hargs))
  · exact (h c _).trans ((Cert.Ref.loss_eq _).trans (congrArg Args.loss hargs))
  · exact (h c _).trans ((Cert.Ref.indices_eq _).trans (congrArg Args.indices hargs))
  · and_intros <;> rw [h c, Cert.Ref.V7_kept _ _ (by decide)] <;> rfl

end Cert.Equation

end
-- ==== Proof.lean ====
/- The proof of the claim: the frames of the three programs, and the equation of their results. -/
module

public import proofs.«01_k».proof.Defs
public import proofs.«01_k».proof.Proof.Gen.Kernel.Frame
public import proofs.«01_k».proof.Proof.Gen.KernelIdeal.Frame
public import proofs.«01_k».proof.Proof.RefFrame
public import proofs.«01_k».proof.Proof.Equation

@[expose] public section

noncomputable section

namespace Cert.Proof

/-- The programs' frames, the ideal program's agreement with the kernel, and the equation of kernel and reference. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g,
    fun m g _ => Cert.KernelIdeal.Gen.frame m g, Cert.Ref.frame, fun m g _ => Cert.Ref.frame m g trivial,
    trivial, @Cert.Equation.equation Cert.Finite.facts⟩

end Cert.Proof

end
